-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x2048 : Shape := ⟨2, ![4096, 2048]⟩
abbrev S4096x64 : Shape := ⟨2, ![4096, 64]⟩
abbrev S32x136x64 : Shape := ⟨3, ![32, 136, 64]⟩
abbrev S32 : Shape := ⟨1, ![32]⟩
abbrev S_ : Shape := ⟨0, ![]⟩
abbrev S128x2048 : Shape := ⟨2, ![128, 2048]⟩
abbrev S1x128x2048 : Shape := ⟨3, ![1, 128, 2048]⟩
abbrev S1 : Shape := ⟨1, ![1]⟩
abbrev S1x1x1 : Shape := ⟨3, ![1, 1, 1]⟩
abbrev S128x64 : Shape := ⟨2, ![128, 64]⟩
abbrev S1x128x64 : Shape := ⟨3, ![1, 128, 64]⟩
abbrev S32x8x64 : Shape := ⟨3, ![32, 8, 64]⟩
abbrev S1x136x64 : Shape := ⟨3, ![1, 136, 64]⟩
abbrev S136x64 : Shape := ⟨2, ![136, 64]⟩
abbrev S32x1x64 : Shape := ⟨3, ![32, 1, 64]⟩
abbrev S32x64 : Shape := ⟨2, ![32, 64]⟩
abbrev S1x32x64 : Shape := ⟨3, ![1, 32, 64]⟩
abbrev S32x128x64 : Shape := ⟨3, ![32, 128, 64]⟩

abbrev nBuf : Space → Nat
  | .hbm => 3
  | .vmem => 5
  | .smem => 0
  | _ => 0

abbrev bufTy : (tb : Table) → Fin (tcTables nBuf tb) → BufTy
  | .hbm, ⟨0, _⟩ => ⟨S128x4096, .f32⟩
  | .hbm, ⟨1, _⟩ => ⟨S4096x2048, .f32⟩
  | .hbm, ⟨2, _⟩ => ⟨S4096x64, .f32⟩
  | .local _ .vmem, ⟨0, _⟩ => ⟨S128x4096, .f32⟩
  | .local _ .vmem, ⟨1, _⟩ => ⟨S4096x2048, .f32⟩
  | .local _ .vmem, ⟨2, _⟩ => ⟨S4096x64, .f32⟩
  | .local _ .vmem, ⟨3, _⟩ => ⟨S32x136x64, .f32⟩
  | .local _ .vmem, ⟨4, _⟩ => ⟨S32x136x64, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v270 : Index := Scalar.indexCast v2
  let c0_196 : Index := 0#32
  let c0_197 : Index := 0#32
  ![v270.toNat, 0, 0]
def k0_off2 (d0 : Dev nD) (c1_i32_200 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v277 : BitVec 32 := Scalar.addi v2 c1_i32_200
  let c32_i32_201 : BitVec 32 := 32#32
  let v278 : BitVec 32 := Scalar.remsi v277 c32_i32_201
  ![v278.toNat]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_204 : BitVec 32 := 0#32
  let c0_i32_205 : BitVec 32 := 0#32
  ![v2.toNat, 0, 0]
def k0_off5 (d0 : Dev nD) (c1_i32_200 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v277 : BitVec 32 := Scalar.addi v2 c1_i32_200
  let c32_i32_201 : BitVec 32 := 32#32
  let v278 : BitVec 32 := Scalar.remsi v277 c32_i32_201
  let c0_i32_206 : BitVec 32 := 0#32
  let c0_i32_207 : BitVec 32 := 0#32
  ![v278.toNat, 0, 0]
def k0_dev32 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_200 : BitVec 32 := 1#32
  let v277 : BitVec 32 := Scalar.addi v2 c1_i32_200
  let c32_i32_201 : BitVec 32 := 32#32
  let v278 : BitVec 32 := Scalar.remsi v277 c32_i32_201
  let c1_i32_202 : BitVec 32 := 1#32
  let v279 : BitVec 32 := Scalar.muli v278 c1_i32_202
  let v280 : BitVec 32 := Scalar.addi c0_i32_203 v279
  v280.toNat
def k0_dev33 (d0 : Dev nD) : Nat :=
  let c0_i32_211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_208 : BitVec 32 := 2#32
  let v289 : BitVec 32 := Scalar.addi v2 c2_i32_208
  let c32_i32_209 : BitVec 32 := 32#32
  let v290 : BitVec 32 := Scalar.remsi v289 c32_i32_209
  let c1_i32_210 : BitVec 32 := 1#32
  let v291 : BitVec 32 := Scalar.muli v290 c1_i32_210
  let v292 : BitVec 32 := Scalar.addi c0_i32_211 v291
  v292.toNat
def k0_dev34 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_216 : BitVec 32 := 3#32
  let v301 : BitVec 32 := Scalar.addi v2 c3_i32_216
  let c32_i32_217 : BitVec 32 := 32#32
  let v302 : BitVec 32 := Scalar.remsi v301 c32_i32_217
  let c1_i32_218 : BitVec 32 := 1#32
  let v303 : BitVec 32 := Scalar.muli v302 c1_i32_218
  let v304 : BitVec 32 := Scalar.addi c0_i32_219 v303
  v304.toNat
def k0_dev35 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_224 : BitVec 32 := 4#32
  let v313 : BitVec 32 := Scalar.addi v2 c4_i32_224
  let c32_i32_225 : BitVec 32 := 32#32
  let v314 : BitVec 32 := Scalar.remsi v313 c32_i32_225
  let c1_i32_226 : BitVec 32 := 1#32
  let v315 : BitVec 32 := Scalar.muli v314 c1_i32_226
  let v316 : BitVec 32 := Scalar.addi c0_i32_227 v315
  v316.toNat
def k0_dev36 (d0 : Dev nD) : Nat :=
  let c0_i32_235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_232 : BitVec 32 := 5#32
  let v325 : BitVec 32 := Scalar.addi v2 c5_i32_232
  let c32_i32_233 : BitVec 32 := 32#32
  let v326 : BitVec 32 := Scalar.remsi v325 c32_i32_233
  let c1_i32_234 : BitVec 32 := 1#32
  let v327 : BitVec 32 := Scalar.muli v326 c1_i32_234
  let v328 : BitVec 32 := Scalar.addi c0_i32_235 v327
  v328.toNat
def k0_dev37 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_240 : BitVec 32 := 6#32
  let v337 : BitVec 32 := Scalar.addi v2 c6_i32_240
  let c32_i32_241 : BitVec 32 := 32#32
  let v338 : BitVec 32 := Scalar.remsi v337 c32_i32_241
  let c1_i32_242 : BitVec 32 := 1#32
  let v339 : BitVec 32 := Scalar.muli v338 c1_i32_242
  let v340 : BitVec 32 := Scalar.addi c0_i32_243 v339
  v340.toNat
def k0_dev38 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_248 : BitVec 32 := 7#32
  let v349 : BitVec 32 := Scalar.addi v2 c7_i32_248
  let c32_i32_249 : BitVec 32 := 32#32
  let v350 : BitVec 32 := Scalar.remsi v349 c32_i32_249
  let c1_i32_250 : BitVec 32 := 1#32
  let v351 : BitVec 32 := Scalar.muli v350 c1_i32_250
  let v352 : BitVec 32 := Scalar.addi c0_i32_251 v351
  v352.toNat
def k0_dev39 (d0 : Dev nD) : Nat :=
  let c0_i32_259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_256 : BitVec 32 := 8#32
  let v361 : BitVec 32 := Scalar.addi v2 c8_i32_256
  let c32_i32_257 : BitVec 32 := 32#32
  let v362 : BitVec 32 := Scalar.remsi v361 c32_i32_257
  let c1_i32_258 : BitVec 32 := 1#32
  let v363 : BitVec 32 := Scalar.muli v362 c1_i32_258
  let v364 : BitVec 32 := Scalar.addi c0_i32_259 v363
  v364.toNat
def k0_dev40 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_264 : BitVec 32 := 9#32
  let v373 : BitVec 32 := Scalar.addi v2 c9_i32_264
  let c32_i32_265 : BitVec 32 := 32#32
  let v374 : BitVec 32 := Scalar.remsi v373 c32_i32_265
  let c1_i32_266 : BitVec 32 := 1#32
  let v375 : BitVec 32 := Scalar.muli v374 c1_i32_266
  let v376 : BitVec 32 := Scalar.addi c0_i32_267 v375
  v376.toNat
def k0_dev41 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_272 : BitVec 32 := 10#32
  let v385 : BitVec 32 := Scalar.addi v2 c10_i32_272
  let c32_i32_273 : BitVec 32 := 32#32
  let v386 : BitVec 32 := Scalar.remsi v385 c32_i32_273
  let c1_i32_274 : BitVec 32 := 1#32
  let v387 : BitVec 32 := Scalar.muli v386 c1_i32_274
  let v388 : BitVec 32 := Scalar.addi c0_i32_275 v387
  v388.toNat
def k0_dev42 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_280 : BitVec 32 := 11#32
  let v397 : BitVec 32 := Scalar.addi v2 c11_i32_280
  let c32_i32_281 : BitVec 32 := 32#32
  let v398 : BitVec 32 := Scalar.remsi v397 c32_i32_281
  let c1_i32_282 : BitVec 32 := 1#32
  let v399 : BitVec 32 := Scalar.muli v398 c1_i32_282
  let v400 : BitVec 32 := Scalar.addi c0_i32_283 v399
  v400.toNat
def k0_dev43 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_288 : BitVec 32 := 12#32
  let v409 : BitVec 32 := Scalar.addi v2 c12_i32_288
  let c32_i32_289 : BitVec 32 := 32#32
  let v410 : BitVec 32 := Scalar.remsi v409 c32_i32_289
  let c1_i32_290 : BitVec 32 := 1#32
  let v411 : BitVec 32 := Scalar.muli v410 c1_i32_290
  let v412 : BitVec 32 := Scalar.addi c0_i32_291 v411
  v412.toNat
def k0_dev44 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_296 : BitVec 32 := 13#32
  let v421 : BitVec 32 := Scalar.addi v2 c13_i32_296
  let c32_i32_297 : BitVec 32 := 32#32
  let v422 : BitVec 32 := Scalar.remsi v421 c32_i32_297
  let c1_i32_298 : BitVec 32 := 1#32
  let v423 : BitVec 32 := Scalar.muli v422 c1_i32_298
  let v424 : BitVec 32 := Scalar.addi c0_i32_299 v423
  v424.toNat
def k0_dev45 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_304 : BitVec 32 := 14#32
  let v433 : BitVec 32 := Scalar.addi v2 c14_i32_304
  let c32_i32_305 : BitVec 32 := 32#32
  let v434 : BitVec 32 := Scalar.remsi v433 c32_i32_305
  let c1_i32_306 : BitVec 32 := 1#32
  let v435 : BitVec 32 := Scalar.muli v434 c1_i32_306
  let v436 : BitVec 32 := Scalar.addi c0_i32_307 v435
  v436.toNat
def k0_dev46 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_312 : BitVec 32 := 15#32
  let v445 : BitVec 32 := Scalar.addi v2 c15_i32_312
  let c32_i32_313 : BitVec 32 := 32#32
  let v446 : BitVec 32 := Scalar.remsi v445 c32_i32_313
  let c1_i32_314 : BitVec 32 := 1#32
  let v447 : BitVec 32 := Scalar.muli v446 c1_i32_314
  let v448 : BitVec 32 := Scalar.addi c0_i32_315 v447
  v448.toNat
def k0_dev47 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_320 : BitVec 32 := 16#32
  let v457 : BitVec 32 := Scalar.addi v2 c16_i32_320
  let c32_i32_321 : BitVec 32 := 32#32
  let v458 : BitVec 32 := Scalar.remsi v457 c32_i32_321
  let c1_i32_322 : BitVec 32 := 1#32
  let v459 : BitVec 32 := Scalar.muli v458 c1_i32_322
  let v460 : BitVec 32 := Scalar.addi c0_i32_323 v459
  v460.toNat
def k0_dev48 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_328 : BitVec 32 := 17#32
  let v469 : BitVec 32 := Scalar.addi v2 c17_i32_328
  let c32_i32_329 : BitVec 32 := 32#32
  let v470 : BitVec 32 := Scalar.remsi v469 c32_i32_329
  let c1_i32_330 : BitVec 32 := 1#32
  let v471 : BitVec 32 := Scalar.muli v470 c1_i32_330
  let v472 : BitVec 32 := Scalar.addi c0_i32_331 v471
  v472.toNat
def k0_dev49 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_336 : BitVec 32 := 18#32
  let v481 : BitVec 32 := Scalar.addi v2 c18_i32_336
  let c32_i32_337 : BitVec 32 := 32#32
  let v482 : BitVec 32 := Scalar.remsi v481 c32_i32_337
  let c1_i32_338 : BitVec 32 := 1#32
  let v483 : BitVec 32 := Scalar.muli v482 c1_i32_338
  let v484 : BitVec 32 := Scalar.addi c0_i32_339 v483
  v484.toNat
def k0_dev50 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_344 : BitVec 32 := 19#32
  let v493 : BitVec 32 := Scalar.addi v2 c19_i32_344
  let c32_i32_345 : BitVec 32 := 32#32
  let v494 : BitVec 32 := Scalar.remsi v493 c32_i32_345
  let c1_i32_346 : BitVec 32 := 1#32
  let v495 : BitVec 32 := Scalar.muli v494 c1_i32_346
  let v496 : BitVec 32 := Scalar.addi c0_i32_347 v495
  v496.toNat
def k0_dev51 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_352 : BitVec 32 := 20#32
  let v505 : BitVec 32 := Scalar.addi v2 c20_i32_352
  let c32_i32_353 : BitVec 32 := 32#32
  let v506 : BitVec 32 := Scalar.remsi v505 c32_i32_353
  let c1_i32_354 : BitVec 32 := 1#32
  let v507 : BitVec 32 := Scalar.muli v506 c1_i32_354
  let v508 : BitVec 32 := Scalar.addi c0_i32_355 v507
  v508.toNat
def k0_dev52 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_360 : BitVec 32 := 21#32
  let v517 : BitVec 32 := Scalar.addi v2 c21_i32_360
  let c32_i32_361 : BitVec 32 := 32#32
  let v518 : BitVec 32 := Scalar.remsi v517 c32_i32_361
  let c1_i32_362 : BitVec 32 := 1#32
  let v519 : BitVec 32 := Scalar.muli v518 c1_i32_362
  let v520 : BitVec 32 := Scalar.addi c0_i32_363 v519
  v520.toNat
def k0_dev53 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_368 : BitVec 32 := 22#32
  let v529 : BitVec 32 := Scalar.addi v2 c22_i32_368
  let c32_i32_369 : BitVec 32 := 32#32
  let v530 : BitVec 32 := Scalar.remsi v529 c32_i32_369
  let c1_i32_370 : BitVec 32 := 1#32
  let v531 : BitVec 32 := Scalar.muli v530 c1_i32_370
  let v532 : BitVec 32 := Scalar.addi c0_i32_371 v531
  v532.toNat
def k0_dev54 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_376 : BitVec 32 := 23#32
  let v541 : BitVec 32 := Scalar.addi v2 c23_i32_376
  let c32_i32_377 : BitVec 32 := 32#32
  let v542 : BitVec 32 := Scalar.remsi v541 c32_i32_377
  let c1_i32_378 : BitVec 32 := 1#32
  let v543 : BitVec 32 := Scalar.muli v542 c1_i32_378
  let v544 : BitVec 32 := Scalar.addi c0_i32_379 v543
  v544.toNat
def k0_dev55 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_384 : BitVec 32 := 24#32
  let v553 : BitVec 32 := Scalar.addi v2 c24_i32_384
  let c32_i32_385 : BitVec 32 := 32#32
  let v554 : BitVec 32 := Scalar.remsi v553 c32_i32_385
  let c1_i32_386 : BitVec 32 := 1#32
  let v555 : BitVec 32 := Scalar.muli v554 c1_i32_386
  let v556 : BitVec 32 := Scalar.addi c0_i32_387 v555
  v556.toNat
def k0_dev56 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_392 : BitVec 32 := 25#32
  let v565 : BitVec 32 := Scalar.addi v2 c25_i32_392
  let c32_i32_393 : BitVec 32 := 32#32
  let v566 : BitVec 32 := Scalar.remsi v565 c32_i32_393
  let c1_i32_394 : BitVec 32 := 1#32
  let v567 : BitVec 32 := Scalar.muli v566 c1_i32_394
  let v568 : BitVec 32 := Scalar.addi c0_i32_395 v567
  v568.toNat
def k0_dev57 (d0 : Dev nD) : Nat :=
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_400 : BitVec 32 := 26#32
  let v577 : BitVec 32 := Scalar.addi v2 c26_i32_400
  let c32_i32_401 : BitVec 32 := 32#32
  let v578 : BitVec 32 := Scalar.remsi v577 c32_i32_401
  let c1_i32_402 : BitVec 32 := 1#32
  let v579 : BitVec 32 := Scalar.muli v578 c1_i32_402
  let v580 : BitVec 32 := Scalar.addi c0_i32_403 v579
  v580.toNat
def k0_dev58 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_408 : BitVec 32 := 27#32
  let v589 : BitVec 32 := Scalar.addi v2 c27_i32_408
  let c32_i32_409 : BitVec 32 := 32#32
  let v590 : BitVec 32 := Scalar.remsi v589 c32_i32_409
  let c1_i32_410 : BitVec 32 := 1#32
  let v591 : BitVec 32 := Scalar.muli v590 c1_i32_410
  let v592 : BitVec 32 := Scalar.addi c0_i32_411 v591
  v592.toNat
def k0_dev59 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_416 : BitVec 32 := 28#32
  let v601 : BitVec 32 := Scalar.addi v2 c28_i32_416
  let c32_i32_417 : BitVec 32 := 32#32
  let v602 : BitVec 32 := Scalar.remsi v601 c32_i32_417
  let c1_i32_418 : BitVec 32 := 1#32
  let v603 : BitVec 32 := Scalar.muli v602 c1_i32_418
  let v604 : BitVec 32 := Scalar.addi c0_i32_419 v603
  v604.toNat
def k0_dev60 (d0 : Dev nD) : Nat :=
  let c0_i32_427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_424 : BitVec 32 := 29#32
  let v613 : BitVec 32 := Scalar.addi v2 c29_i32_424
  let c32_i32_425 : BitVec 32 := 32#32
  let v614 : BitVec 32 := Scalar.remsi v613 c32_i32_425
  let c1_i32_426 : BitVec 32 := 1#32
  let v615 : BitVec 32 := Scalar.muli v614 c1_i32_426
  let v616 : BitVec 32 := Scalar.addi c0_i32_427 v615
  v616.toNat
def k0_dev61 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_432 : BitVec 32 := 30#32
  let v625 : BitVec 32 := Scalar.addi v2 c30_i32_432
  let c32_i32_433 : BitVec 32 := 32#32
  let v626 : BitVec 32 := Scalar.remsi v625 c32_i32_433
  let c1_i32_434 : BitVec 32 := 1#32
  let v627 : BitVec 32 := Scalar.muli v626 c1_i32_434
  let v628 : BitVec 32 := Scalar.addi c0_i32_435 v627
  v628.toNat
def k0_dev62 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_440 : BitVec 32 := 31#32
  let v637 : BitVec 32 := Scalar.addi v2 c31_i32_440
  let c32_i32_441 : BitVec 32 := 32#32
  let v638 : BitVec 32 := Scalar.remsi v637 c32_i32_441
  let c1_i32_442 : BitVec 32 := 1#32
  let v639 : BitVec 32 := Scalar.muli v638 c1_i32_442
  let v640 : BitVec 32 := Scalar.addi c0_i32_443 v639
  v640.toNat
def k0_off6 (d0 : Dev nD) (c1_i32_449 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_448 : BitVec 32 := 32#32
  let v649 : BitVec 32 := Scalar.addi v2 c32_i32_448
  let v650 : BitVec 32 := Scalar.subi v649 c1_i32_449
  let c32_i32_450 : BitVec 32 := 32#32
  let v651 : BitVec 32 := Scalar.remsi v650 c32_i32_450
  ![v651.toNat]
def k0_off7 (d0 : Dev nD) (c1_i32_449 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_448 : BitVec 32 := 32#32
  let v649 : BitVec 32 := Scalar.addi v2 c32_i32_448
  let v650 : BitVec 32 := Scalar.subi v649 c1_i32_449
  let c32_i32_450 : BitVec 32 := 32#32
  let v651 : BitVec 32 := Scalar.remsi v650 c32_i32_450
  let c0_i32_453 : BitVec 32 := 0#32
  let c0_i32_454 : BitVec 32 := 0#32
  ![v651.toNat, 0, 0]
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Ideal.Slots.lean ====
/-
# The geometry of the exchange

Thirty-two devices stand in a circle. Device `c` reaches device `c + r + 1` in its step `r`, and is itself reached in
that step by device `c - r - 1`. Each device has two buffers of thirty-two slots of 136 × 64 numbers: the one it sends
from and the one the others write into. Slot `k` is the set of places whose first coordinate is `k`; a transfer reads
one slot and writes another.

This module names the neighbours, the semaphores and the slots, and reads the printed slices off as those names.
-/
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Pipeline.ValueKit
public import Idealize.ShloMosaic.Lib.ValueLayout
public import Idealize.ShloMosaic.Lib.Tactic

@[expose] public section

set_option maxRecDepth 16384

noncomputable section

namespace Cert.KernelIdeal.Exchange

open Cert.KernelIdeal Cert.KernelIdeal.Gen
open Idealize.ShloMosaic Idealize.ShloMosaic.TcCoe
open Idealize.ShloMosaic.ValueKit

variable {F : FTy → Type} [FloatOps F]

/-! ## Neighbours -/

set_option backward.proofsInPublic true in
/-- The device that `c` addresses in step `r`. -/
def peer (c : Dev nD) (r : ℕ) : Dev nD := ⟨(c.val + (r + 1)) % 32, Nat.mod_lt _ (by decide)⟩

set_option backward.proofsInPublic true in
/-- The device that addresses `c` in step `r`. -/
def src (c : Dev nD) (r : ℕ) : Dev nD := ⟨((c.val + 31) - r) % 32, Nat.mod_lt _ (by decide)⟩

theorem peer_val (c : Dev nD) (r : ℕ) : (peer c r).val = (c.val + (r + 1)) % 32 := rfl
theorem src_val (c : Dev nD) (r : ℕ) : (src c r).val = ((c.val + 31) - r) % 32 := rfl

theorem src_peer (c : Dev nD) (r : ℕ) (hr : r < 31) : src (peer c r) r = c := by
  apply Fin.ext; rw [src_val, peer_val]; have : c.val < 32 := c.isLt; omega
theorem peer_src (c : Dev nD) (r : ℕ) (hr : r < 31) : peer (src c r) r = c := by
  apply Fin.ext; rw [peer_val, src_val]; have : c.val < 32 := c.isLt; omega
theorem peer_ne (c : Dev nD) (r : ℕ) (hr : r < 31) : peer c r ≠ c := by
  intro h; have h' := congrArg Fin.val h; rw [peer_val] at h'; have : c.val < 32 := c.isLt; omega
theorem src_ne (c : Dev nD) (r : ℕ) (hr : r < 31) : src c r ≠ c := by
  intro h; have h' := congrArg Fin.val h; rw [src_val] at h'; have : c.val < 32 := c.isLt; omega
theorem peer_inj (c : Dev nD) {r r' : ℕ} (hr : r < 31) (hr' : r' < 31) (h : peer c r = peer c r') : r = r' := by
  have h' := congrArg Fin.val h; rw [peer_val, peer_val] at h'; have : c.val < 32 := c.isLt; omega
theorem src_inj (c : Dev nD) {r r' : ℕ} (hr : r < 31) (hr' : r' < 31) (h : src c r = src c r') : r = r' := by
  have h' := congrArg Fin.val h; rw [src_val, src_val] at h'; have : c.val < 32 := c.isLt; omega

/-- Step `r` pairs the devices off: who addresses whom. -/
def turn (r : Fin 31) : Dev nD ≃ Dev nD :=
  ⟨fun c => peer c r, fun c => src c r, fun c => src_peer c r r.isLt, fun c => peer_src c r r.isLt⟩

/-- Over its thirty-one steps a device addresses every other one once. -/
theorem image_peer (c : Dev nD) : (Finset.Ico 0 31).image (peer c) = Finset.univ.erase c := by
  ext d
  rw [Finset.mem_image, Finset.mem_erase]
  constructor
  · rintro ⟨r, hr, rfl⟩
    exact ⟨peer_ne c r (Finset.mem_Ico.mp hr).2, Finset.mem_univ _⟩
  · rintro ⟨h, -⟩
    have hne : d.val ≠ c.val := fun e => h (Fin.ext e)
    have hc : c.val < 32 := c.isLt
    have hd : d.val < 32 := d.isLt
    have hr : (d.val + 31 - c.val) % 32 < 31 := by omega
    refine ⟨(d.val + 31 - c.val) % 32, Finset.mem_Ico.mpr ⟨Nat.zero_le _, hr⟩, Fin.ext ?_⟩
    rw [peer_val]; omega

/-- And every other one addresses it once. -/
theorem image_src (c : Dev nD) : (Finset.Ico 0 31).image (src c) = Finset.univ.erase c := by
  ext d
  rw [Finset.mem_image, Finset.mem_erase]
  constructor
  · rintro ⟨r, hr, rfl⟩
    exact ⟨src_ne c r (Finset.mem_Ico.mp hr).2, Finset.mem_univ _⟩
  · rintro ⟨h, -⟩
    have hne : d.val ≠ c.val := fun e => h (Fin.ext e)
    have hc : c.val < 32 := c.isLt
    have hd : d.val < 32 := d.isLt
    have hr : (c.val + 31 - d.val) % 32 < 31 := by omega
    refine ⟨(c.val + 31 - d.val) % 32, Finset.mem_Ico.mpr ⟨Nat.zero_le _, hr⟩, Fin.ext ?_⟩
    rw [src_val]; omega

theorem peer_injOn (c : Dev nD) : Set.InjOn (peer c) (Finset.Ico 0 31 : Finset ℕ) := by
  intro r hr r' hr' h
  exact peer_inj c (Finset.mem_Ico.mp (Finset.mem_coe.mp hr)).2 (Finset.mem_Ico.mp (Finset.mem_coe.mp hr')).2 h
theorem src_injOn (c : Dev nD) : Set.InjOn (src c) (Finset.Ico 0 31 : Finset ℕ) := by
  intro r hr r' hr' h
  exact src_inj c (Finset.mem_Ico.mp (Finset.mem_coe.mp hr)).2 (Finset.mem_Ico.mp (Finset.mem_coe.mp hr')).2 h

/-! ## Buffers and semaphores -/

abbrev sendM : Memref sig .tc .vmem S32x136x64 .f32 := Memref.whole cc0_scratch0
abbrev recvM : Memref sig .tc .vmem S32x136x64 .f32 := Memref.whole cc0_scratch1
abbrev xM : Memref sig .tc .vmem S128x4096 .f32 := Memref.whole cc0_stg0_0
abbrev wM : Memref sig .tc .vmem S4096x2048 .f32 := Memref.whole cc0_stg1_0
abbrev oM : Memref sig .tc .vmem S4096x64 .f32 := Memref.whole cc0_stg2_0

/-- The runtime's barrier semaphore. -/
abbrev barS : Sem sig := (SemArray.scalar (sig.barrier 0 rfl) : Sems sig S_).sem

set_option backward.proofsInPublic true in
/-- The semaphore that counts the transfer out of send slot `t`; -/
def sendQ (t : Dev nD) : DmaSem sig := ⟨3 + t.val, by have := t.isLt; show 3 + t.val < 67; change t.val < 32 at this; omega⟩
set_option backward.proofsInPublic true in
/-- the semaphore that counts the arrival in receive slot `s`. -/
def recvQ (s : Dev nD) : DmaSem sig := ⟨35 + s.val, by have := s.isLt; show 35 + s.val < 67; change s.val < 32 at this; omega⟩

theorem ix_consecutive (base : ℕ) (h : base + S32.numel ≤ 67) (i : S32.Idx) :
    ((SemArray.consecutive (n := 67) base S32 h).ix i).val = base + (i 0).val := by
  show base + (S32.rowMajor i).val = _
  rw [Shape.rowMajor_val_one]

theorem sem_slice_val (base : ℕ) (h : base + S32.numel ≤ 67) (off : Fin 1 → ℕ) (inb) :
    ((((SemArray.consecutive (n := 67) base S32 h).slice (Rect.unit (s := S32) off S1.size inb)).squeeze S_ squeezes_S1_S_).sem).val = base + off 0 := by
  show ((SemArray.consecutive (n := 67) base S32 h).ix ((Rect.unit (s := S32) off S1.size inb).emb (Shape.reshapeEquiv _ _))).val = _
  rw [ix_consecutive, rect_emb_unit_val]
  have h1 : ∀ j : S1.Idx, (j 0).val = 0 := fun j => Nat.lt_one_iff.mp (j 0).isLt
  exact congrArg (fun z => base + (off 0 + z)) (h1 _)

/-- The printed slice of the array of send semaphores at offset `t` names `sendQ t`. -/
theorem send_sem {off : Fin 1 → ℕ} {inb} (t : Dev nD) (h : off = ![t.val]) :
    ((cc0_scratch2.slice (Rect.unit (s := S32) off S1.size inb)).squeeze S_ squeezes_S1_S_).sem = sendQ t := by
  subst h; exact Fin.ext (sem_slice_val 3 _ _ _)

/-- The printed slice of the array of receive semaphores at offset `s` names `recvQ s`. -/
theorem recv_sem {off : Fin 1 → ℕ} {inb} (s : Dev nD) (h : off = ![s.val]) :
    ((cc0_scratch3.slice (Rect.unit (s := S32) off S1.size inb)).squeeze S_ squeezes_S1_S_).sem = recvQ s := by
  subst h; exact Fin.ext (sem_slice_val 35 _ _ _)

/-! ## Slots -/

/-- The places of slot `k`. -/
def slotSet (k : Dev nD) : Finset S32x136x64.Idx := Finset.univ.filter fun i => (i 0).val = k.val

theorem mem_slotSet (k : Dev nD) (i : S32x136x64.Idx) : i ∈ slotSet k ↔ (i 0).val = k.val := by
  unfold slotSet; rw [Finset.mem_filter]; exact ⟨fun h => h.2, fun h => ⟨Finset.mem_univ _, h⟩⟩

theorem slotSet_disjoint {k k' : Dev nD} (h : k ≠ k') : Disjoint (slotSet k) (slotSet k') := by
  rw [Finset.disjoint_left]; intro i hi hi'
  exact h (Fin.ext (((mem_slotSet k i).mp hi).symm.trans ((mem_slotSet k' i).mp hi')))

theorem biUnion_slotSet : (Finset.univ : Finset (Dev nD)).biUnion slotSet = Finset.univ := by
  ext i; rw [Finset.mem_biUnion]
  exact ⟨fun _ => Finset.mem_univ _, fun _ => ⟨i 0, Finset.mem_univ _, (mem_slotSet _ _).mpr rfl⟩⟩

/-- A slot as the printed text cuts it out of a whole buffer `b`: the slice at row `off 0`, its unit axis dropped. -/
abbrev slotM (M : Memref sig .tc .vmem S32x136x64 .f32) (off : Fin 3 → ℕ) (inb : ∀ a, off a + S1x136x64.size a ≤ S32x136x64.size a) :
    Memref sig .tc .vmem S136x64 .f32 :=
  (M.slice (Rect.unit (s := S32x136x64) off S1x136x64.size inb) (fun _ => rfl)).squeeze S136x64 squeezes_S1x136x64_S136x64

theorem rect_set (k : Dev nD) (inb) : (Rect.unit (s := S32x136x64) ![k.val, 0, 0] S1x136x64.size inb).set = slotSet k := by
  ext i
  rw [← Rect.map_emb_univ, Finset.mem_map, mem_slotSet]
  constructor
  · rintro ⟨j, -, rfl⟩
    have hj : (j 0).val = 0 := Nat.lt_one_iff.mp (j 0).isLt
    exact (rect_emb_unit_val _ _ _ j 0).trans (congrArg (k.val + ·) hj)
  · intro h
    refine ⟨ix3 (0 : Fin 1) (i 1) (i 2), Finset.mem_univ _, ?_⟩
    refine funext fun a => Fin.ext ((rect_emb_unit_val _ _ _ _ a).trans ?_)
    match a with
    | ⟨0, _⟩ => show k.val + 0 = (i 0).val; omega
    | ⟨1, _⟩ => show 0 + (i 1).val = (i 1).val; omega
    | ⟨2, _⟩ => show 0 + (i 2).val = (i 2).val; omega

theorem send_slot_set {off : Fin 3 → ℕ} {inb} (k : Dev nD) (h : off = ![k.val, 0, 0]) : (slotM sendM off inb).view.set = slotSet k := by
  subst h
  show (((View.whole cc0_scratch0).slice _).reshape _ _).set = _
  rw [View.set_reshape, View.set_slice_whole]; exact rect_set k _
theorem recv_slot_set {off : Fin 3 → ℕ} {inb} (k : Dev nD) (h : off = ![k.val, 0, 0]) : (slotM recvM off inb).view.set = slotSet k := by
  subst h
  show (((View.whole cc0_scratch1).slice _).reshape _ _).set = _
  rw [View.set_reshape, View.set_slice_whole]; exact rect_set k _

/-- Where the squeezed slot's place `(p, q)` lies in the slot's slice: at `(0, p, q)`. -/
theorem squeeze_place (j : S136x64.Idx) : (Shape.reshapeEquiv squeezes_S1x136x64_S136x64.numel_eq j : S1x136x64.Idx) = ix3 (0 : Fin 1) (j 0) (j 1) := by
  apply Shape.reshapeEquiv_eq_of_rowMajor
  refine (Shape.rowMajor_val_three (d := ![1, 136, 64]) (ix3 (0 : Fin 1) (j 0) (j 1))).trans
    (Eq.trans ?_ (Shape.rowMajor_val_two (d := ![136, 64]) j).symm)
  show (0 * 136 + (j 0).val) * 64 + (j 1).val = (j 0).val * 64 + (j 1).val
  omega

theorem slot_place (k : Dev nD) (inb) (j : S136x64.Idx) :
    (Rect.unit (s := S32x136x64) ![k.val, 0, 0] S1x136x64.size inb).emb (Shape.reshapeEquiv squeezes_S1x136x64_S136x64.numel_eq j : S1x136x64.Idx)
      = (ix3 k (j 0) (j 1) : S32x136x64.Idx) := by
  refine (congrArg (Rect.unit (s := S32x136x64) ![k.val, 0, 0] S1x136x64.size inb).emb (squeeze_place j)).trans ?_
  refine funext fun a => Fin.ext ((rect_emb_unit_val _ _ _ _ a).trans ?_)
  match a with
  | ⟨0, _⟩ => show k.val + 0 = k.val; omega
  | ⟨1, _⟩ => show 0 + (j 0).val = (j 0).val; omega
  | ⟨2, _⟩ => show 0 + (j 1).val = (j 1).val; omega

/-- What a transfer from send slot `t` to receive slot `k` leaves at the places of slot `k`: at `(k, p, q)` what the
    send buffer held at `(t, p, q)`. -/
theorem slot_copy {offd offs : Fin 3 → ℕ} {inbd inbs} (k t : Dev nD) (hd : offd = ![k.val, 0, 0]) (hs : offs = ![t.val, 0, 0])
    (fd : (cc0_scratch1 : Ref sig .tc).ty.Contents (Elt F)) (fs : (cc0_scratch0 : Ref sig .tc).ty.Contents (Elt F)) (i : S32x136x64.Idx) (hi : i ∈ slotSet k) :
    (slotM recvM offd inbd).view.write (Elt F) fd ((slotM sendM offs inbs).view.read (Elt F) fs) Finset.univ i = fs (ix3 t (i 1) (i 2)) := by
  subst hd hs
  have hi' : i = (ix3 k (i 1) (i 2) : S32x136x64.Idx) := by
    refine funext fun a => Fin.ext ?_
    match a with
    | ⟨0, _⟩ => exact (mem_slotSet k i).mp hi
    | ⟨1, _⟩ => rfl
    | ⟨2, _⟩ => rfl
  have hp : (slotM recvM ![k.val, 0, 0] inbd).view.emb (ix2 (i 1) (i 2)) = i := (slot_place k inbd _).trans hi'.symm
  have hq : (slotM sendM ![t.val, 0, 0] inbs).view.emb (ix2 (i 1) (i 2)) = (ix3 t (i 1) (i 2) : S32x136x64.Idx) := slot_place t inbs _
  have e := View.write_emb_of_mem (v := (slotM recvM ![k.val, 0, 0] inbd).view) (Val := Elt F) fd
    ((slotM sendM ![t.val, 0, 0] inbs).view.read (Elt F) fs) (M := Finset.univ) (x := ix2 (i 1) (i 2)) (Finset.mem_univ _)
  rw [hp] at e
  refine e.trans ?_
  rw [View.read_apply, hq]
  rfl

end Cert.KernelIdeal.Exchange

end
-- ==== Proof.Ideal.Protocol.lean ====
/-
# The protocol of the exchange

Every semaphore is used for one round. Device `c`'s barrier semaphore is raised once by each of the other thirty-one
devices; device `d`'s unit hands `c` the slot `c` of `d`'s receive buffer, which `c` is going to write. The semaphore
of send slot `t` is raised when the transfer out of that slot has read it, and gives the slot back. The semaphore of
receive slot `s` is raised when device `s`'s transfer has landed, and gives the slot with what `s` sent. A device's own
two slots take part in no transfer, and their semaphores stay idle.
-/
module

public import proofs.«01_k».proof.Proof.Ideal.Slots
public import proofs.«01_k».proof.Proof.Gen.KernelIdeal.Launch

@[expose] public section

set_option maxRecDepth 16384

noncomputable section

namespace Cert.KernelIdeal.Exchange

open Cert.KernelIdeal Cert.KernelIdeal.Gen
open Idealize.ShloMosaic Idealize.ShloMosaic.TcCoe Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline library's and the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## Cells -/

abbrev barCell (c : Dev nD) : GSem nD τ sig := ((c : Thread nD τ), .reg barS)
abbrev sendCell (c t : Dev nD) : GSem nD τ sig := ((c : Thread nD τ), .dma (sendQ t))
abbrev recvCell (c s : Dev nD) : GSem nD τ sig := ((c : Thread nD τ), .dma (recvQ s))

set_option backward.proofsInPublic true in
/-- The slot a DMA semaphore of the exchange belongs to. -/
def slotOf (q : DmaSem sig) : Dev nD := ⟨(q.val + 29) % 32, Nat.mod_lt _ (by decide)⟩

theorem slotOf_sendQ (t : Dev nD) : slotOf (sendQ t) = t := by
  apply Fin.ext; have : t.val < 32 := t.isLt; show (3 + t.val + 29) % 32 = t.val; omega
theorem slotOf_recvQ (s : Dev nD) : slotOf (recvQ s) = s := by
  apply Fin.ext; have : s.val < 32 := s.isLt; show (35 + s.val + 29) % 32 = s.val; omega
theorem sendQ_val (t : Dev nD) : (sendQ t).val = 3 + t.val := rfl
theorem recvQ_val (s : Dev nD) : (recvQ s).val = 35 + s.val := rfl

/-- What a transfer of one slot counts. -/
def N : ℕ := (slotM recvM ![0, 0, 0] (by decide)).view.dmaCredit
theorem N_pos : 0 < N := View.dmaCredit_pos _ (by decide)
theorem credit_recv (off : Fin 3 → ℕ) (inb) : (slotM recvM off inb).view.dmaCredit = N := rfl
theorem credit_send (off : Fin 3 → ℕ) (inb) : (slotM sendM off inb).view.dmaCredit = N := rfl

/-! ## Contents -/

/-- Device `c`'s rows of the left factor, as its kernel sees them; -/
def xstg (c : Dev nD) : (cc0_stg0_0 : Ref sig .tc).ty.Contents (Elt F) :=
  (win0_0.blk (0 : Fin 1)).view.read (Elt F) ((s₀ m ρ).mem ((c : Thread nD τ).loc main_arg0))
/-- the right factor. -/
def wstg (c : Dev nD) : (cc0_stg1_0 : Ref sig .tc).ty.Contents (Elt F) :=
  (win0_1.blk (0 : Fin 1)).view.read (Elt F) ((s₀ m ρ).mem ((c : Thread nD τ).loc main_arg1))

/-- Device `c`'s rows of the product, and the largest magnitude among them. -/
def yOf (c : Dev nD) : FVec F S128x2048 .f32 := k0_pay1 (xstg m ρ c) (wstg m ρ c)
def amaxOf (c : Dev nD) : F .f32 := k0_pay2 (xstg m ρ c) (wstg m ρ c)

/-- A send buffer filled from a product `y` and a magnitude `a`: slot `k` has the `k`-th block of 64 columns of `y` in its
    first 128 rows, and `a` in the eight rows after them. -/
def filled (y : FVec F S128x2048 .f32) (a : F .f32) : (cc0_scratch0 : Ref sig .tc).ty.Contents (Elt F) := fun (i : S32x136x64.Idx) =>
  if h : (i 1).val < 128 then
    y (ix2 (⟨(i 1).val, h⟩ : Fin 128) (⟨64 * (i 0).val + (i 2).val, by
      have h0 : (i 0).val < 32 := (i 0).isLt
      have h2 : (i 2).val < 64 := (i 2).isLt
      omega⟩ : Fin 2048))
  else a

/-- What device `c`'s send buffer holds when the transfers begin, -/
def sendC (c : Dev nD) : (cc0_scratch0 : Ref sig .tc).ty.Contents (Elt F) := filled (yOf m ρ c) (amaxOf m ρ c)

/-- and what its receive buffer holds when they have ended: in slot `s` what device `s` had for it. -/
def gath (c : Dev nD) : (cc0_scratch1 : Ref sig .tc).ty.Contents (Elt F) :=
  fun (i : S32x136x64.Idx) => sendC m ρ (i 0) (ix3 c (i 1) (i 2) : S32x136x64.Idx)

abbrev locS (c : Dev nD) : Loc nD τ sig := (c : Thread nD τ).loc cc0_scratch0
abbrev locR (c : Dev nD) : Loc nD τ sig := (c : Thread nD τ).loc cc0_scratch1

/-- Slot `k` of device `c`'s send buffer, filled; -/
def sendPay (c k : Dev nD) : sProp 𝕄 := locS c ↦[slotSet k]{fullShare} sendC m ρ c
/-- slot `k` of device `c`'s receive buffer, as device `k` has written it; -/
def recvPay (c k : Dev nD) : sProp 𝕄 := locR c ↦[slotSet k]{fullShare} gath m ρ c
/-- slot `k` of device `c`'s receive buffer, with whatever it holds. -/
def freeSlot (c k : Dev nD) : sProp 𝕄 := iprop(∃ f : Buf (Elt F) (locR c), locR c ↦[slotSet k]{fullShare} f)

omit [FloatOps F] in
instance freeSlot_storable (c k : Dev nD) : BI.Storable (upEmb : UEmb _ 𝕄) (freeSlot (F := F) c k) := by unfold freeSlot; infer_instance
instance sendPay_storable (c k : Dev nD) : BI.Storable (upEmb : UEmb _ 𝕄) (sendPay (F := F) m ρ c k) := by unfold sendPay; infer_instance
instance recvPay_storable (c k : Dev nD) : BI.Storable (upEmb : UEmb _ 𝕄) (recvPay (F := F) m ρ c k) := by unfold recvPay; infer_instance

/-! ## The schedule -/

/-- Who pays into device `c`'s semaphore: at the barrier every other device; at a slot other than its own the one transfer. -/
def dutiesOf (c : Dev nD) : SemLoc sig → Finset (Dev nD)
  | .reg _ => Finset.univ.erase c
  | .dma q => if 3 ≤ q.val ∧ slotOf q ≠ c then {0} else ∅

/-- What the payment hands over. -/
def payloadOf (c : Dev nD) (d : Dev nD) : SemLoc sig → sProp 𝕄
  | .reg _ => freeSlot d c
  | .dma q => if 35 ≤ q.val then recvPay m ρ c (slotOf q) else sendPay m ρ c (slotOf q)

def amountAt : SemLoc sig → ℕ
  | .reg _ => 1
  | .dma _ => N

theorem amountAt_pos (sm : SemLoc sig) : 0 < amountAt sm := by
  cases sm
  · exact Nat.one_pos
  · exact N_pos

def Rd : Rounds.Schedule (GSem nD τ sig) (Dev nD) 𝕄 where
  duties g r := if r = 0 ∧ g.1.2 = .tc then dutiesOf g.1.1 g.2 else ∅
  unitless _ := False
  amount g _ _ := amountAt g.2
  payload g _ d := payloadOf m ρ g.1.1 d g.2
  amount_pos g _ _ _ := amountAt_pos g.2

instance Rd_payload_storable (g : GSem nD τ sig) (r : ℕ) (d : Dev nD) :
    BI.Storable (upEmb : UEmb _ 𝕄) ((Rd (F := F) m ρ).payload g r d) := by
  obtain ⟨g, sm⟩ := g
  show BI.Storable upEmb (payloadOf m ρ g.1 d sm)
  cases sm with
  | reg s => unfold payloadOf; infer_instance
  | dma q => unfold payloadOf; dsimp only; split <;> infer_instance

section Sched
variable (c : Dev nD)

theorem duties_tc (sm : SemLoc sig) : (Rd (F := F) m ρ).duties ((c : Thread nD τ), sm) 0 = dutiesOf c sm := by
  dsimp only [Rd]; exact if_pos ⟨rfl, rfl⟩
theorem duties_bar : (Rd (F := F) m ρ).duties (barCell c) 0 = Finset.univ.erase c := duties_tc m ρ c _
theorem duties_send (t : Dev nD) (h : t ≠ c) : (Rd (F := F) m ρ).duties (sendCell c t) 0 = {0} := by
  rw [duties_tc]; exact if_pos ⟨by rw [sendQ_val]; omega, by rw [slotOf_sendQ]; exact h⟩
theorem duties_recv (s : Dev nD) (h : s ≠ c) : (Rd (F := F) m ρ).duties (recvCell c s) 0 = {0} := by
  rw [duties_tc]; exact if_pos ⟨by rw [recvQ_val]; omega, by rw [slotOf_recvQ]; exact h⟩
theorem duties_send_own : (Rd (F := F) m ρ).duties (sendCell c c) 0 = ∅ := by
  rw [duties_tc]; exact if_neg fun h => h.2 (slotOf_sendQ c)
theorem duties_recv_own : (Rd (F := F) m ρ).duties (recvCell c c) 0 = ∅ := by
  rw [duties_tc]; exact if_neg fun h => h.2 (slotOf_recvQ c)
theorem duties_later (g : GSem nD τ sig) : ∀ r, 1 ≤ r → (Rd (F := F) m ρ).duties g r = ∅ :=
  fun r hr => if_neg fun h => by omega
theorem duties_idle (g : GSem nD τ sig) (h : (Rd (F := F) m ρ).duties g 0 = ∅) : ∀ r, 0 ≤ r → (Rd (F := F) m ρ).duties g r = ∅ := fun r _ => by
  rcases Nat.eq_zero_or_pos r with rfl | hr
  · exact h
  · exact duties_later m ρ g r hr

theorem amount_bar (r : ℕ) (d : Dev nD) : (Rd (F := F) m ρ).amount (barCell c) r d = 1 := rfl
theorem amount_send (t : Dev nD) (r : ℕ) (d : Dev nD) : (Rd (F := F) m ρ).amount (sendCell c t) r d = N := rfl
theorem amount_recv (s : Dev nD) (r : ℕ) (d : Dev nD) : (Rd (F := F) m ρ).amount (recvCell c s) r d = N := rfl

theorem expect_bar : (Rd (F := F) m ρ).expect (barCell c) 0 = 31 := by
  unfold Schedule.expect Schedule.amountOf
  rw [duties_bar, Finset.sum_congr rfl fun d _ => amount_bar m ρ c 0 d, Finset.sum_const, Finset.card_erase_of_mem (Finset.mem_univ _),
    Finset.card_univ, Fintype.card_fin, smul_eq_mul]
  rfl
theorem expect_send (t : Dev nD) (h : t ≠ c) : (Rd (F := F) m ρ).expect (sendCell c t) 0 = N := by
  unfold Schedule.expect Schedule.amountOf; rw [duties_send m ρ c t h, Finset.sum_singleton, amount_send]
theorem expect_recv (s : Dev nD) (h : s ≠ c) : (Rd (F := F) m ρ).expect (recvCell c s) 0 = N := by
  unfold Schedule.expect Schedule.amountOf; rw [duties_recv m ρ c s h, Finset.sum_singleton, amount_recv]

theorem payload_bar (d : Dev nD) : (Rd (F := F) m ρ).payload (barCell c) 0 d = freeSlot d c := rfl
theorem payload_send (t d : Dev nD) : (Rd (F := F) m ρ).payload (sendCell c t) 0 d = sendPay m ρ c t := by
  show (if 35 ≤ (sendQ t).val then recvPay m ρ c (slotOf (sendQ t)) else sendPay m ρ c (slotOf (sendQ t))) = _
  have h : t.val < 32 := t.isLt
  rw [if_neg (by rw [sendQ_val]; omega), slotOf_sendQ]
theorem payload_recv (s d : Dev nD) : (Rd (F := F) m ρ).payload (recvCell c s) 0 d = recvPay m ρ c s := by
  show (if 35 ≤ (recvQ s).val then recvPay m ρ c (slotOf (recvQ s)) else sendPay m ρ c (slotOf (recvQ s))) = _
  rw [if_pos (by rw [recvQ_val]; omega), slotOf_recvQ]

/-- What the whole of a semaphore's round hands its owner: at the barrier, its slot of every other device's receive buffer, step by step; -/
theorem rest_bar : bigSep ((Rd (F := F) m ρ).duties (barCell c) 0 \ ∅) (fun d => (Rd (F := F) m ρ).payload (barCell c) 0 d)
    = bigSep (Finset.Ico 0 31) fun r => freeSlot (peer c r) c := by
  rw [Finset.sdiff_empty, duties_bar, ← image_peer, bigSep_image_of_injOn (peer_injOn c)]
  rfl
/-- at a send slot, the slot; -/
theorem rest_send (t : Dev nD) (h : t ≠ c) : bigSep ((Rd (F := F) m ρ).duties (sendCell c t) 0 \ ∅) (fun d => (Rd (F := F) m ρ).payload (sendCell c t) 0 d)
    = sendPay m ρ c t := by
  rw [Finset.sdiff_empty, duties_send m ρ c t h, bigSep_singleton, payload_send]
/-- at a receive slot, the slot with what came. -/
theorem rest_recv (s : Dev nD) (h : s ≠ c) : bigSep ((Rd (F := F) m ρ).duties (recvCell c s) 0 \ ∅) (fun d => (Rd (F := F) m ρ).payload (recvCell c s) 0 d)
    = recvPay m ρ c s := by
  rw [Finset.sdiff_empty, duties_recv m ρ c s h, bigSep_singleton, payload_recv]

end Sched

/-! ## What a device owes, and the order of waiting -/

/-- The transfers still to be made from step `n` on, and the barrier units still to be given. -/
def owedX (c : Dev nD) (n : ℕ) : CellTallies nD τ sig Unit := ∑ r ∈ Finset.Ico n 31, tallyAt (recvCell (peer c r) c) () N
def owedB (c : Dev nD) (n : ℕ) : CellTallies nD τ sig Unit := ∑ r ∈ Finset.Ico n 31, tallyAt (barCell (peer c r)) () 1

/-- At launch a device owes all of both. -/
def O₀ (c : Dev nD) : CellTallies nD τ sig Unit := owedX c 0 + owedB c 0

theorem owedX_succ (c : Dev nD) (n : ℕ) (h : n < 31) : owedX c n = owedX c (n + 1) + tallyAt (recvCell (peer c n) c) () N := by
  unfold owedX; rw [Finset.sum_eq_sum_Ico_succ_bot h, add_comm]
theorem owedB_succ (c : Dev nD) (n : ℕ) (h : n < 31) : owedB c n = owedB c (n + 1) + tallyAt (barCell (peer c n)) () 1 := by
  unfold owedB; rw [Finset.sum_eq_sum_Ico_succ_bot h, add_comm]
theorem owedX_last (c : Dev nD) : owedX c 31 = 0 := by unfold owedX; rw [Finset.Ico_self, Finset.sum_empty]
theorem owedB_last (c : Dev nD) : owedB c 31 = 0 := by unfold owedB; rw [Finset.Ico_self, Finset.sum_empty]

def L (g : GSem nD τ sig) : Finset Unit := if g.1.2 = .tc then {()} else ∅
/-- The barrier's semaphores stand at level 1, the receive semaphores at 2, the others at 0. -/
def lv (g : GSem nD τ sig) (_ : Unit) : ℕ := match g.2 with
  | .reg _ => 1
  | .dma q => if 35 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c s : Dev nD) (u : Unit) : lv (recvCell c s) u = 2 := if_pos (by rw [recvQ_val]; omega)
theorem lv_bar (c : Dev nD) (u : Unit) : lv (barCell c) u = 1 := rfl

theorem tally_sum_pos {I : Type} {S : Finset I} {g₀ : I → GSem nD τ sig} {k : ℕ} {g : GSem nD τ sig} {u : Unit}
    (h : 0 < (∑ r ∈ S, tallyAt (g₀ r) () k : CellTallies nD τ sig Unit) g u) : ∃ r ∈ S, g = g₀ r := by
  classical
  by_contra hn
  have hz : (∑ r ∈ S, tallyAt (g₀ r) () k : CellTallies nD τ sig Unit) g u = 0 := by
    rw [Finset.sum_apply, Finsupp.finsetSum_apply]
    refine Finset.sum_eq_zero fun r hr => ?_
    rw [tallyAt_apply, if_neg fun e => hn ⟨r, hr, e.1⟩]
  omega

theorem owedX_pos {c : Dev nD} {n : ℕ} {g : GSem nD τ sig} {u : Unit} (h : 0 < owedX c n g u) : ∃ d, g = recvCell d c := by
  obtain ⟨r, -, e⟩ := tally_sum_pos h; exact ⟨_, e⟩
theorem owedB_pos {c : Dev nD} {n : ℕ} {g : GSem nD τ sig} {u : Unit} (h : 0 < owedB c n g u) : ∃ d, g = barCell d := by
  obtain ⟨r, -, e⟩ := tally_sum_pos h; exact ⟨_, e⟩
theorem O₀_pos {c : Dev nD} {g : GSem nD τ sig} {u : Unit} (h : 0 < O₀ c g u) : (∃ d, g = recvCell d c) ∨ ∃ d, g = barCell d := by
  unfold O₀ at h; rw [Pi.add_apply, Finsupp.add_apply] at h
  rcases Nat.eq_zero_or_pos (owedX c 0 g u) with hx | hx
  · exact .inr (owedB_pos (by omega : 0 < owedB c 0 g u))
  · exact .inl (owedX_pos hx)

omit [FloatOps F] in
/-- A staging semaphore may be waited for at launch and at the end. -/
theorem mayWait_stage (c : Dev nD) (q : DmaSem sig) (hq : q.val < 35) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; exact (if_neg (by omega) : (if 35 ≤ q.val then 2 else 0) = 0).le)
      (fun g u hg => by
        rcases O₀_pos hg with ⟨d, rfl⟩ | ⟨d, rfl⟩
        · rw [lv_recv]; decide
        · rw [lv_bar]; decide)
  · rw [MayWait_zero]; iintro -; iempintro

omit [FloatOps F] in
/-- At its barrier a device owes transfers only, whose semaphores stand above the barrier's. -/
theorem mayWait_bar (c : Dev nD) : (levAts L lv : sProp 𝕄) ⊢ MayWait (c : Thread nD τ) (.reg barS) () (owedX c 0) :=
  MayOwe.of_cut (L := L) (lev := lv) 1 (fun p hp => by rw [Finset.mem_singleton.mp hp, L_tc]; exact Finset.mem_singleton_self _)
    (fun g u hg => by obtain ⟨d, rfl⟩ := owedX_pos hg; exact Finset.mem_singleton_self _)
    (fun p hp => by rw [Finset.mem_singleton.mp hp]; exact le_of_eq (lv_bar c ()))
    (fun g u hg => by obtain ⟨d, rfl⟩ := owedX_pos hg; rw [lv_recv]; decide)

/-! ## The records: every semaphore's invariant -/

set_option backward.proofsInPublic true in
/-- The semaphores of the exchange, numbered: the barrier, then the thirty-two of the send slots, then those of the receive slots. -/
def csem (k : Fin 65) : SemLoc sig :=
  if k.val = 0 then .reg barS else .dma ⟨2 + k.val, by have h : k.val < 65 := k.isLt; show 2 + k.val < 67; omega⟩

def barK : Fin 65 := 0
set_option backward.proofsInPublic true in
def sendK (t : Dev nD) : Fin 65 := ⟨1 + t.val, by have : t.val < 32 := t.isLt; omega⟩
set_option backward.proofsInPublic true in
def recvK (s : Dev nD) : Fin 65 := ⟨33 + s.val, by have : s.val < 32 := s.isLt; omega⟩

theorem csem_bar : csem barK = .reg barS := if_pos rfl
theorem csem_send (t : Dev nD) : csem (sendK t) = .dma (sendQ t) := by
  unfold csem; rw [if_neg (by show ¬ 1 + t.val = 0; omega)]
  exact congrArg SemLoc.dma (Fin.ext (by show 2 + (1 + t.val) = 3 + t.val; omega))
theorem csem_recv (s : Dev nD) : csem (recvK s) = .dma (recvQ s) := by
  unfold csem; rw [if_neg (by show ¬ 33 + s.val = 0; omega)]
  exact congrArg SemLoc.dma (Fin.ext (by show 2 + (33 + s.val) = 35 + s.val; omega))

/-- A number is the barrier's, a send slot's or a receive slot's. -/
theorem fin65_cases (k : Fin 65) : k = barK ∨ (∃ t, k = sendK t) ∨ ∃ s, k = recvK s := by
  have hk := k.isLt
  by_cases h0 : k.val = 0
  · exact .inl (Fin.ext h0)
  · by_cases h1 : k.val < 33
    · exact .inr (.inl ⟨⟨k.val - 1, by show k.val - 1 < 32; omega⟩, Fin.ext (by show k.val = 1 + (k.val - 1); omega)⟩)
    · exact .inr (.inr ⟨⟨k.val - 33, by show k.val - 33 < 32; omega⟩, Fin.ext (by show k.val = 33 + (k.val - 33); omega)⟩)

theorem csem_injective : Function.Injective csem := by
  intro k k' h
  unfold csem at h
  by_cases h0 : k.val = 0
  · by_cases h0' : k'.val = 0
    · exact Fin.ext (h0.trans h0'.symm)
    · rw [if_pos h0, if_neg h0'] at h; cases h
  · by_cases h0' : k'.val = 0
    · rw [if_neg h0, if_pos h0'] at h; cases h
    · rw [if_neg h0, if_neg h0'] at h
      have e := congrArg Fin.val (SemLoc.dma.inj h)
      apply Fin.ext; change 2 + k.val = 2 + k'.val at e; omega

abbrev kcell (ck : Dev nD × Fin 65) : GSem nD τ sig := ((ck.1 : Thread nD τ), csem ck.2)

/-- Every semaphore's invariant, under the names `K`, and that its round 0 is open; -/
def records (K : Dev nD × Fin 65 → ℕ) : sProp 𝕄 :=
  iprop((bigSep Finset.univ fun ck : Dev nD × Fin 65 => cellInv ER (Rd m ρ) (K ck) (kcell ck))
    ∗ bigSep Finset.univ fun ck : Dev nD × Fin 65 => reached ER (kcell ck) 0)

instance records_persistent (K : Dev nD × Fin 65 → ℕ) : BI.Persistent (records (F := F) m ρ K) := by unfold records; infer_instance

/-- and of one semaphore the two. -/
def record (g : GSem nD τ sig) : sProp 𝕄 := iprop(∃ κ : ℕ, cellInv ER (Rd m ρ) κ g ∗ reached ER g 0)

theorem record_at (K : Dev nD × Fin 65 → ℕ) (ck : Dev nD × Fin 65) : records m ρ K ⊢ record (F := F) m ρ (kcell ck) := by
  unfold records record
  have hI : (bigSep Finset.univ fun ck : Dev nD × Fin 65 => (cellInv ER (Rd m ρ) (K ck) (kcell ck) : sProp 𝕄)) ⊢ cellInv ER (Rd m ρ) (K ck) (kcell ck) :=
    bigSep_elim (Finset.mem_univ ck)
  have hR : (bigSep Finset.univ fun ck : Dev nD × Fin 65 => (reached ER (kcell ck) 0 : sProp 𝕄)) ⊢ reached ER (kcell ck) 0 :=
    bigSep_elim (Finset.mem_univ ck)
  iintro ⟨HI, HR⟩
  iexists (K ck)
  isplitl [HI]
  · iapply hI; iexact HI
  · iapply hR; iexact HR

theorem record_bar (K : Dev nD × Fin 65 → ℕ) (c : Dev nD) : records m ρ K ⊢ record (F := F) m ρ (barCell c) := by
  have h := record_at (F := F) m ρ K (c, barK); rwa [show kcell (c, barK) = barCell c from by rw [kcell, csem_bar]] at h
theorem record_send (K : Dev nD × Fin 65 → ℕ) (c t : Dev nD) : records m ρ K ⊢ record (F := F) m ρ (sendCell c t) := by
  have h := record_at (F := F) m ρ K (c, sendK t); rwa [show kcell (c, sendK t) = sendCell c t from by rw [kcell, csem_send]] at h
theorem record_recv (K : Dev nD × Fin 65 → ℕ) (c s : Dev nD) : records m ρ K ⊢ record (F := F) m ρ (recvCell c s) := by
  have h := record_at (F := F) m ρ K (c, recvK s); rwa [show kcell (c, recvK s) = recvCell c s from by rw [kcell, csem_recv]] at h

end Cert.KernelIdeal.Exchange

end
-- ==== Proof.Ideal.Steps.lean ====
/-
# One step of each kind

What a device holds in each phase of the exchange, counted by the steps already taken, and for each kind of operation the
rule that takes the phase one step on: a signal, the wait at the barrier, a transfer, the wait for an arrival, the wait
for a departure.
-/
module

public import proofs.«01_k».proof.Proof.Ideal.Protocol
public import Idealize.SL.BI.BigOpNat

@[expose] public section

set_option maxRecDepth 16384

noncomputable section

namespace Cert.KernelIdeal.Exchange

open Cert.KernelIdeal Cert.KernelIdeal.Gen
open Idealize.ShloMosaic Idealize.ShloMosaic.TcCoe Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Programs of a device's core, and that one of them, run by device `c`, ends in `Q`. -/
abbrev CoreProg (F : FTy → Type) [FloatOps F] (α : Type) : Type 1 := Prog (TpuEff nD τ sig (Elt F) Λ₀ .tc) α
abbrev WP (c : Dev nD) {α : Type} (p : CoreProg F α) (Q : α → sProp 𝕄) : sProp 𝕄 :=
  wp Idealize.ShloMosaic.frame (wpE (defs₀ (F := F)) 𝒱₀ (c : Thread nD τ) none) Set.univ p Q

/-! ## Resources indexed by the remaining steps -/

omit [FloatOps F] in
theorem ico_first (Φ : ℕ → sProp 𝕄) {n k : ℕ} (h : n < k) : bigSep (Finset.Ico n k) Φ ⊢ iprop(Φ n ∗ bigSep (Finset.Ico (n + 1) k) Φ) :=
  Entails.of_eq (bigSep_Ico_succ_bot h _)
omit [FloatOps F] in
theorem ico_last (Φ : ℕ → sProp 𝕄) (n : ℕ) : iprop(bigSep (Finset.Ico 0 n) Φ ∗ Φ n) ⊢ bigSep (Finset.Ico 0 (n + 1)) Φ := by
  rw [bigSep_Ico_succ_top (Nat.zero_le n)]
  iintro ⟨H1, H2⟩
  first
    | (isplitl [H1] <;> iassumption)
    | (isplitl [H2] <;> iassumption)
omit [FloatOps F] in
theorem ico_none (Φ : ℕ → sProp 𝕄) (n : ℕ) : (emp : sProp 𝕄) ⊢ bigSep (Finset.Ico n n) Φ := by
  rw [Finset.Ico_self, bigSep_empty]
  exact Entails.refl

/-! ## The signals -/

/-- Before signal `n`: the units still to be given, each with the slot it hands over. -/
def sigSt (c : Dev nD) (n : ℕ) : sProp 𝕄 :=
  iprop((∃ W, owes (c : Thread nD τ) (owedX c 0 + owedB c n) W)
    ∗ bigSep (Finset.Ico n 31) fun r => iprop(dutyTok ER (barCell (peer c r)) 0 c ∗ freeSlot c (peer c r)))

theorem step_signal (K : Dev nD × Fin 65 → ℕ) (c : Dev nD) (r : ℕ) (hr : r < 31) (d : Dev nD) (hd : d.val = (c.val + (r + 1)) % 32)
    {α : Type} {Q : α → sProp 𝕄} {k : PUnit → CoreProg F α} :
    iprop(records m ρ K ∗ sigSt c r)
      ⊢ iprop((sigSt c (r + 1) -∗ WP c (k ⟨⟩) Q) -∗ WP c (semSignalWord d barS 1#32 >>= k) Q) := by
  obtain rfl : d = peer c r := Fin.ext hd
  simp only [semSignalWord, Prog.bind_op, Prog.bind_ret]
  unfold sigSt
  iintro ⟨#HR, ⟨%W, HO⟩, Hs⟩ Hk
  ihave Hs' := (ico_first _ hr) $$ Hs
  icases Hs' with ⟨⟨Ht, Hf⟩, Hs⟩
  ihave Hrec := (record_bar m ρ K (peer c r)) $$ HR
  unfold record
  icases Hrec with ⟨%κ, #HI, #Hre⟩
  iapply (Rounds.wp_signal 𝒱₀ ER (Rd m ρ) (c : Thread nD τ) none (dst := (peer c r : Thread nD τ)) (κ := κ)
      (d := c) (by rw [duties_bar]; exact Finset.mem_erase.mpr ⟨(peer_ne c r hr).symm, Finset.mem_univ _⟩)
      ((amount_bar m ρ (peer c r) 0 c).trans (by decide)) () (owedX c 0 + owedB c (r + 1)) (show owedX c 0 + owedB c r = owedX c 0 + owedB c (r + 1) + tallyAt (barCell (peer c r)) () 1
        from by rw [owedB_succ c r hr, add_assoc]))
    $$ [HO Ht Hf]
  · isplitr; · iexact HI
    isplitl [HO]; · iexact HO
    isplitl [Ht]; · iexact Ht
    isplitl [Hf]; · rw [payload_bar]; iexact Hf
    iexact Hre
  iintro HO
  iapply Hk
  isplitl [HO]; · iexists W; iexact HO
  iexact Hs

/-- The wait at the barrier: a device comes out holding its slot of every other device's receive buffer. -/
theorem step_barrier (K : Dev nD × Fin 65 → ℕ) (c : Dev nD) {α : Type} {Q : α → sProp 𝕄} {k : PUnit → CoreProg F α} :
    iprop(records m ρ K ∗ levAts L lv ∗ sigSt c 31 ∗ cred (tallyAt (barCell c) () 31) ∗ atPos ER (barCell c) 0 ∅ 0)
      ⊢ iprop((((∃ W, owes (c : Thread nD τ) (owedX c 0) W) ∗ atPos ER (barCell c) 1 ∅ 0 ∗ bigSep (Finset.Ico 0 31) fun r => freeSlot (peer c r) c)
          -∗ WP c (k ⟨⟩) Q) -∗ WP c (semWaitWord barS 31#32 >>= k) Q) := by
  simp only [semWaitWord, Prog.bind_op, Prog.bind_ret]
  unfold sigSt
  rw [owedB_last, add_zero]
  iintro ⟨#HR, #Hlev, ⟨⟨%W, HO⟩, -⟩, Hc, Hat⟩ Hk
  ihave Hrec := (record_bar m ρ K c) $$ HR
  unfold record
  icases Hrec with ⟨%κ, #HI, -⟩
  iapply (Rounds.wp_wait_rest_token 𝒱₀ ER (Rd m ρ) (c : Thread nD τ) none (κ := κ)
      (wpE_semWait_eq 𝒱₀ (c : Thread nD τ) none Set.univ) (Set.mem_univ _) () (O := owedX c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  iapply Hk
  isplitl [HO]; · iexists _; iexact HO
  isplitl [Hat]; · iexact Hat
  iexact Hp

/-! ## The transfers -/

/-- What step `r`'s transfer needs, -/
def toSend (c : Dev nD) (r : ℕ) : sProp 𝕄 :=
  iprop(sendPay m ρ c (peer c r) ∗ freeSlot (peer c r) c ∗ dutyTok ER (sendCell c (peer c r)) 0 0 ∗ dutyTok ER (recvCell (peer c r) c) 0 0)
/-- and what it leaves: a claim on the slot it reads. -/
def inFlight (c : Dev nD) (r : ℕ) : sProp 𝕄 := cred (tallyAt (sendCell c (peer c r)) () N)

def xferSt (c : Dev nD) (n : ℕ) : sProp 𝕄 :=
  iprop((∃ W, owes (c : Thread nD τ) (owedX c n) W) ∗ bigSep (Finset.Ico n 31) (toSend m ρ c) ∗ bigSep (Finset.Ico 0 n) (inFlight c))

/-- The transfer out of slot `t` lands in slot `c` of device `t`'s receive buffer what `c` had for `t`. -/
theorem landed (c t : Dev nD) {offd offs : Fin 3 → ℕ} {inbd inbs} (hd : offd = ![c.val, 0, 0]) (hs : offs = ![t.val, 0, 0])
    (fd : Buf (Elt F) (locR t)) :
    ((slotM recvM offd inbd).view.loc (t : Thread nD τ) ↦[(slotM recvM offd inbd).view.set]{fullShare}
        ((slotM recvM offd inbd).view.write (Elt F) fd ((slotM sendM offs inbs).view.read (Elt F) (sendC m ρ c)) Finset.univ) : sProp 𝕄)
      ⊢ recvPay m ρ t c := by
  rw [recv_slot_set c hd]
  unfold recvPay
  refine Entails.of_eq (pointsTo_congr fun i hi => ?_)
  refine (slot_copy c t hd hs fd (sendC m ρ c) i hi).trans ?_
  have h0 : (i 0 : Fin 32) = c := Fin.ext ((mem_slotSet c i).mp hi)
  show _ = sendC m ρ (i 0) _
  rw [h0]

theorem step_send (K : Dev nD × Fin 65 → ℕ) (c : Dev nD) (r : ℕ) (hr : r < 31) (d : Dev nD) (hd : d.val = (c.val + (r + 1)) % 32)
    {offS offR : Fin 1 → ℕ} {inbS inbR} (hS : offS = ![(c.val + r + 1) % 32]) (hR : offR = ![c.val])
    {offd offs : Fin 3 → ℕ} {inbd inbs} (hdst : offd = ![c.val, 0, 0]) (hsrc' : offs = ![(c.val + r + 1) % 32, 0, 0])
    {hsc : (slotM recvM offd inbd : Memref sig (Dev.tc d : Thread nD τ).2.kind .vmem S136x64 .f32).view.ref.isScScratch = false}
    {hsrc : (slotM sendM offs inbs).view.WordExact} {hdw : (slotM recvM offd inbd).view.WordExact}
    {hsem : DmaTarget.Typed .vmem (.dma ((cc0_scratch3.slice (Rect.unit (s := S32) offR S1.size inbR)).squeeze S_ squeezes_S1_S_).sem)
      (.remote (Dev.tc d : Thread nD τ) (slotM recvM offd inbd) (.dma ((cc0_scratch2.slice (Rect.unit (s := S32) offS S1.size inbS)).squeeze S_ squeezes_S1_S_).sem) hsc)}
    {α : Type} {Q : α → sProp 𝕄} {k : PUnit → CoreProg F α} :
    iprop(records m ρ K ∗ xferSt m ρ c r)
      ⊢ iprop((xferSt m ρ c (r + 1) -∗ WP c (k ⟨⟩) Q)
          -∗ WP c (Prog.lift (.enqueueDma (slotM sendM offs inbs)
              (.remote (Dev.tc d : Thread nD τ) (slotM recvM offd inbd) (.dma ((cc0_scratch2.slice (Rect.unit (s := S32) offS S1.size inbS)).squeeze S_ squeezes_S1_S_).sem) hsc)
              (.dma ((cc0_scratch3.slice (Rect.unit (s := S32) offR S1.size inbR)).squeeze S_ squeezes_S1_S_).sem) hsrc hdw hsem) >>= k) Q) := by
  obtain rfl : d = peer c r := Fin.ext hd
  have hS' := send_sem (inb := inbS) (peer c r) hS
  have hR' := recv_sem (inb := inbR) c hR
  simp only [Prog.lift, Prog.bind_op, Prog.bind_ret]
  generalize ((cc0_scratch2.slice (Rect.unit (s := S32) offS S1.size inbS)).squeeze S_ squeezes_S1_S_).sem = qS at hS' hsem ⊢
  generalize ((cc0_scratch3.slice (Rect.unit (s := S32) offR S1.size inbR)).squeeze S_ squeezes_S1_S_).sem = qR at hR' hsem ⊢
  subst hS' hR'
  unfold xferSt
  iintro ⟨#HR, ⟨%W, HO⟩, Hs, Hf⟩ Hk
  ihave Hs' := (ico_first _ hr) $$ Hs
  unfold toSend freeSlot
  icases Hs' with ⟨⟨Hp, ⟨%fd, Hfree⟩, Ht1, Ht2⟩, Hs⟩
  ihave Hrec1 := (record_send m ρ K c (peer c r)) $$ HR
  ihave Hrec2 := (record_recv m ρ K (peer c r) c) $$ HR
  unfold record
  icases Hrec1 with ⟨%κ₁, #HI1, #Hre1⟩
  icases Hrec2 with ⟨%κ₂, #HI2, #Hre2⟩
  ihave Hp' := (show sendPay m ρ c (peer c r) ⊢ ((slotM sendM offs inbs).view.loc (c : Thread nD τ) ↦[(slotM sendM offs inbs).view.set]{fullShare} sendC m ρ c : sProp 𝕄)
    from by rw [send_slot_set (peer c r) hsrc']; exact Entails.of_eq rfl) $$ Hp
  ihave Hfree' := (show (locR (peer c r) ↦[slotSet c]{fullShare} fd : sProp 𝕄) ⊢ ((slotM recvM offd inbd).view.loc (peer c r : Thread nD τ) ↦[(slotM recvM offd inbd).view.set]{fullShare} fd : sProp 𝕄)
    from by rw [recv_slot_set c hdst]) $$ Hfree
  iapply (Rounds.wp_send_pointsTo 𝒱₀ ER (Rd m ρ) (c : Thread nD τ) none (κ₁ := κ₁) (κ₂ := κ₂)
    (r₁ := 0) (r₂ := 0) (d₁ := 0) (d₂ := 0) (fd := fd) (fs := sendC m ρ c) (q := fullShare)
    (by rw [duties_send m ρ c _ (peer_ne c r hr)]; exact Finset.mem_singleton_self _)
    (by rw [duties_recv m ρ _ c (peer_ne c r hr).symm]; exact Finset.mem_singleton_self _)
    () () N (show (slotM recvM offd inbd).view.amount (SemLoc.dma (recvQ c)) = N from credit_recv offd inbd) (amount_send m ρ c _ 0 0) (amount_recv m ρ (peer c r) c 0 0) (owedX c (r + 1)) (owedX_succ c r hr) (W := W)
    (by rw [payload_send, send_slot_set (peer c r) hsrc']; exact Entails.of_eq rfl)
    (by rw [payload_recv]; exact landed m ρ c (peer c r) hdst hsrc' fd)) $$ [HO Hp' Hfree' Ht1 Ht2]
  · isplitr; · iexact HI1
    isplitr; · iexact HI2
    isplitl [Hp']; · iexact Hp'
    isplitl [Hfree']; · iexact Hfree'
    isplitl [HO]; · iexact HO
    isplitl [Ht1]; · iexact Ht1
    isplitr; · iexact Hre1
    isplitl [Ht2]; · iexact Ht2
    iexact Hre2
  iintro ⟨Hc, HO⟩
  iapply Hk
  isplitl [HO]; · iexists W; iexact HO
  isplitl [Hs]; · iexact Hs
  iapply (ico_last (inFlight c) r)
  isplitl [Hf]; · iexact Hf
  unfold inFlight; iexact Hc

/-! ## The arrivals -/

def toArrive (c : Dev nD) (r : ℕ) : sProp 𝕄 :=
  iprop(cred (tallyAt (recvCell c (src c r)) () N) ∗ atPos ER (recvCell c (src c r)) 0 ∅ 0)
def arrived (c : Dev nD) (r : ℕ) : sProp 𝕄 := iprop(recvPay m ρ c (src c r) ∗ atPos ER (recvCell c (src c r)) 1 ∅ 0)

def arriveSt (c : Dev nD) (n : ℕ) : sProp 𝕄 :=
  iprop((∃ W, owes (c : Thread nD τ) 0 W) ∗ bigSep (Finset.Ico n 31) (toArrive c) ∗ bigSep (Finset.Ico 0 n) (arrived m ρ c))

theorem step_arrive (K : Dev nD × Fin 65 → ℕ) (c : Dev nD) (r : ℕ) (hr : r < 31)
    {offR : Fin 1 → ℕ} {inbR} (hR : offR = ![((c.val + 31) - r) % 32])
    {offd offs : Fin 3 → ℕ} {inbd inbs} {hsrc : (slotM sendM offs inbs).view.WordExact} {hdst : (slotM recvM offd inbd).view.WordExact}
    {α : Type} {Q : α → sProp 𝕄} {k : PUnit → CoreProg F α} :
    iprop(records m ρ K ∗ arriveSt m ρ c r)
      ⊢ iprop((arriveSt m ρ c (r + 1) -∗ WP c (k ⟨⟩) Q)
          -∗ WP c (Prog.lift (.waitDma2 ((cc0_scratch3.slice (Rect.unit (s := S32) offR S1.size inbR)).squeeze S_ squeezes_S1_S_).sem
              (slotM sendM offs inbs) (slotM recvM offd inbd) hsrc hdst) >>= k) Q) := by
  simp only [Prog.lift, Prog.bind_op, Prog.bind_ret, recv_sem (src c r) hR]
  unfold arriveSt
  iintro ⟨#HR, ⟨%W, HO⟩, Hs, Hf⟩ Hk
  ihave Hs' := (ico_first _ hr) $$ Hs
  unfold toArrive
  icases Hs' with ⟨⟨Hc, Hat⟩, Hs⟩
  ihave Hrec := (record_recv m ρ K c (src c r)) $$ HR
  unfold record
  icases Hrec with ⟨%κ, #HI, -⟩
  iapply (Rounds.wp_wait_rest_token 𝒱₀ ER (Rd m ρ) (c : Thread nD τ) none (κ := κ)
      (wpE_waitDma2_eq 𝒱₀ (c : Thread nD τ) none Set.univ) (Set.mem_univ _) () (O := 0) (W := W) (R := 0) (m := 0) (T := ∅)
      (by rw [Nat.zero_add, expect_recv m ρ c _ (src_ne c r hr)]; exact credit_recv offd inbd)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m ρ c _ (src_ne c r hr))) $$ Hpay
  iapply Hk
  isplitl [HO]; · iexists _; iexact HO
  isplitl [Hs]; · iexact Hs
  iapply (ico_last (arrived m ρ c) r)
  isplitl [Hf]; · iexact Hf
  unfold arrived
  isplitl [Hp]; · iexact Hp
  iexact Hat

/-! ## The departures -/

def toLeave (c : Dev nD) (r : ℕ) : sProp 𝕄 := iprop(inFlight c r ∗ atPos ER (sendCell c (peer c r)) 0 ∅ 0)
def left (c : Dev nD) (r : ℕ) : sProp 𝕄 := iprop(sendPay m ρ c (peer c r) ∗ atPos ER (sendCell c (peer c r)) 1 ∅ 0)

def leaveSt (c : Dev nD) (n : ℕ) : sProp 𝕄 :=
  iprop((∃ W, owes (c : Thread nD τ) 0 W) ∗ bigSep (Finset.Ico n 31) (toLeave c) ∗ bigSep (Finset.Ico 0 n) (left m ρ c))

theorem step_leave (K : Dev nD × Fin 65 → ℕ) (c : Dev nD) (r : ℕ) (hr : r < 31)
    {offS : Fin 1 → ℕ} {inbS} (hS : offS = ![(c.val + r + 1) % 32])
    {offd offs : Fin 3 → ℕ} {inbd inbs} {hsrc : (slotM recvM offs inbs).view.WordExact} {hdst : (slotM sendM offd inbd).view.WordExact}
    {α : Type} {Q : α → sProp 𝕄} {k : PUnit → CoreProg F α} :
    iprop(records m ρ K ∗ leaveSt m ρ c r)
      ⊢ iprop((leaveSt m ρ c (r + 1) -∗ WP c (k ⟨⟩) Q)
          -∗ WP c (Prog.lift (.waitDma2 ((cc0_scratch2.slice (Rect.unit (s := S32) offS S1.size inbS)).squeeze S_ squeezes_S1_S_).sem
              (slotM recvM offs inbs) (slotM sendM offd inbd) hsrc hdst) >>= k) Q) := by
  simp only [Prog.lift, Prog.bind_op, Prog.bind_ret, send_sem (peer c r) hS]
  unfold leaveSt
  iintro ⟨#HR, ⟨%W, HO⟩, Hs, Hf⟩ Hk
  ihave Hs' := (ico_first _ hr) $$ Hs
  unfold toLeave inFlight
  icases Hs' with ⟨⟨Hc, Hat⟩, Hs⟩
  ihave Hrec := (record_send m ρ K c (peer c r)) $$ HR
  unfold record
  icases Hrec with ⟨%κ, #HI, -⟩
  iapply (Rounds.wp_wait_rest_token 𝒱₀ ER (Rd m ρ) (c : Thread nD τ) none (κ := κ)
      (wpE_waitDma2_eq 𝒱₀ (c : Thread nD τ) none Set.univ) (Set.mem_univ _) () (O := 0) (W := W) (R := 0) (m := 0) (T := ∅)
      (by rw [Nat.zero_add, expect_send m ρ c _ (peer_ne c r hr)]; exact credit_send offd inbd)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m ρ c _ (peer_ne c r hr))) $$ Hpay
  iapply Hk
  isplitl [HO]; · iexists _; iexact HO
  isplitl [Hs]; · iexact Hs
  iapply (ico_last (left m ρ c) r)
  isplitl [Hf]; · iexact Hf
  unfold left
  isplitl [Hp]; · iexact Hp
  iexact Hat

end Cert.KernelIdeal.Exchange

end
-- ==== Proof.Ideal.Fill.lean ====
/-
# Filling the send buffer, and a device's own slot

A device writes its send buffer slot by slot, each with one block of columns of its product, and then the rows that carry
the magnitude; after the last store the buffer holds `sendC`. It then copies its own slot to its receive buffer itself.
-/
module

public import proofs.«01_k».proof.Proof.Ideal.Steps

@[expose] public section

set_option maxRecDepth 16384

noncomputable section

namespace Cert.KernelIdeal.Exchange

open Cert.KernelIdeal Cert.KernelIdeal.Gen
open Idealize.ShloMosaic Idealize.ShloMosaic.TcCoe Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What one store writes -/

/-- A block of 64 columns cut out of `y` at column `64 k`, with a leading axis of one put before it. -/
theorem block_at (y : FVec F S128x2048 .f32) (k : ℕ) {off : Fin 2 → ℕ} (hoff : off = ![0, 64 * k]) (hs : S128x2048.Slices off S128x64)
    (hc : S128x64.ShapeCasts S1x128x64) (j : S1x128x64.Idx) (hlt : 64 * k + (j 2).val < 2048) :
    shapeCast S1x128x64 (extractStridedSlice S128x64 off y hs) hc j
      = y (ix2 (⟨(j 1).val, (j 1).isLt⟩ : Fin 128) (⟨64 * k + (j 2).val, hlt⟩ : Fin 2048)) := by
  subst hoff
  refine (shapeCast_apply _ hc j (ix2 (j 1) (j 2) : S128x64.Idx) ?_).trans ?_
  · refine (Shape.rowMajor_val_two (d := ![128, 64]) (ix2 (j 1) (j 2))).trans
      (Eq.trans ?_ (Shape.rowMajor_val_three (d := ![1, 128, 64]) j).symm)
    have h0 : (j 0).val < 1 := (j 0).isLt
    show (j 1).val * 64 + (j 2).val = ((j 0).val * 128 + (j 1).val) * 64 + (j 2).val
    omega
  · refine extractStridedSlice_apply _ y hs _ _ fun a => ?_
    match a with
    | ⟨0, _⟩ => exact (Nat.zero_add _).symm
    | ⟨1, _⟩ => rfl

/-- The magnitude stands everywhere in what goes to the last rows. -/
theorem pad_at (a : F .f32) (j : S32x8x64.Idx) : k0_pay37 a j = a := by
  show shapeCast S32x8x64 (broadcast S32x8x64 a) _ j = _
  rw [shapeCast_self]; rfl

theorem filled_low (y : FVec F S128x2048 .f32) (a : F .f32) (i : S32x136x64.Idx) (h : (i 1).val < 128) (hlt : 64 * (i 0).val + (i 2).val < 2048) :
    filled y a i = y (ix2 (⟨(i 1).val, h⟩ : Fin 128) (⟨64 * (i 0).val + (i 2).val, hlt⟩ : Fin 2048)) := by
  unfold filled; exact dif_pos h
theorem filled_high (y : FVec F S128x2048 .f32) (a : F .f32) (i : S32x136x64.Idx) (h : ¬ (i 1).val < 128) : filled y a i = a := by
  unfold filled; exact dif_neg h

/-! ## The state of the buffer -/

/-- The send buffer agrees with `sendC` at the places `P` is true of. -/
def fillSt (c : Dev nD) (P : S32x136x64.Idx → Prop) : sProp 𝕄 :=
  iprop(∃ f : (cc0_scratch0 : Ref sig .tc).ty.Contents (Elt F), ⌜∀ i : S32x136x64.Idx, P i → f i = sendC m ρ c i⌝
    ∗ (locS c ↦[Finset.univ]{fullShare} f))

/-- The first `k` slots have their columns. -/
def upTo (k : ℕ) (i : S32x136x64.Idx) : Prop := (i 0).val < k ∧ (i 1).val < 128

/-- A store of part of `sendC` adds the places it writes. -/
theorem step_store (c : Dev nD) (P P' : S32x136x64.Idx → Prop) (r : Rect S32x136x64) {hl : (sendM : Memref sig .tc .vmem S32x136x64 .f32).view.LoadsAt r.toLoadRect}
    {w : r.shape.Idx → Elt F .f32} (hw : ∀ j, w j = sendC m ρ c (r.emb j)) (hP : ∀ i, P' i → (∃ j, r.emb j = i) ∨ P i)
    {hx : ((sendM : Memref sig .tc .vmem S32x136x64 .f32).access r).Stores Finset.univ} {hm}
    {α : Type} {Q : α → sProp 𝕄} {k : PUnit → CoreProg F α} :
    fillSt m ρ c P
      ⊢ iprop((fillSt m ρ c P' -∗ WP c (k ⟨⟩) Q)
          -∗ WP c (Prog.lift (.load sendM r.toLoadRect hl) >>= fun _ => Prog.lift (.store sendM r w Finset.univ hx hm) >>= k) Q) := by
  simp only [Prog.lift, Prog.bind_op, Prog.bind_ret]
  unfold fillSt
  iintro ⟨%f, %hf, Hp⟩ Hk
  iapply (wp_load 𝒱₀ (c : Thread nD τ) none Set.univ (m := sendM) (Finset.subset_univ _)) $$ Hp; iintro Hp
  iapply (wp_store 𝒱₀ (c : Thread nD τ) none Set.univ (m := sendM) (r := r) (Mk := Finset.univ) (Finset.subset_univ _)) $$ Hp; iintro Hp
  iapply Hk
  iexists ((sendM : Memref sig .tc .vmem S32x136x64 .f32).access r).write (Elt F) f w Finset.univ
  isplitr
  · ipureintro
    intro i hi
    by_cases hj : ∃ j, r.emb j = i
    · obtain ⟨j, rfl⟩ := hj
      exact (View.write_emb_of_mem (v := (sendM : Memref sig .tc .vmem S32x136x64 .f32).access r) (Val := Elt F) f w (x := j) (Finset.mem_univ j)).trans (hw j)
    · refine (View.write_of_not_mem (v := (sendM : Memref sig .tc .vmem S32x136x64 .f32).access r) (Val := Elt F) f w Finset.univ ?_).trans
        (hf i ((hP i hi).resolve_left hj))
      rw [View.setOn_univ]
      intro hmem
      obtain ⟨j, -, e⟩ := Finset.mem_map.mp hmem
      exact hj ⟨j, e⟩
  · iexact Hp

/-- Storing block `k` of the product in slot `k`. -/
theorem step_fill (c : Dev nD) (k : ℕ) (hk : k < 32) (inb : ∀ a, (![k, 0, 0] : Fin 3 → ℕ) a + S1x128x64.size a ≤ S32x136x64.size a) {off : Fin 2 → ℕ} (hoff : off = ![0, 64 * k]) (hs : S128x2048.Slices off S128x64)
    (hc : S128x64.ShapeCasts S1x128x64)
    {hl : (sendM : Memref sig .tc .vmem S32x136x64 .f32).view.LoadsAt (Rect.unit (s := S32x136x64) ![k, 0, 0] S1x128x64.size inb).toLoadRect}
    {hx : ((sendM : Memref sig .tc .vmem S32x136x64 .f32).access (Rect.unit (s := S32x136x64) ![k, 0, 0] S1x128x64.size inb)).Stores Finset.univ} {hm}
    {α : Type} {Q : α → sProp 𝕄} {g : PUnit → CoreProg F α} :
    fillSt m ρ c (upTo k)
      ⊢ iprop((fillSt m ρ c (upTo (k + 1)) -∗ WP c (g ⟨⟩) Q)
          -∗ WP c (Prog.lift (.load sendM (Rect.unit (s := S32x136x64) ![k, 0, 0] S1x128x64.size inb).toLoadRect hl) >>= fun _ =>
              Prog.lift (.store sendM (Rect.unit (s := S32x136x64) ![k, 0, 0] S1x128x64.size inb)
                (shapeCast S1x128x64 (extractStridedSlice S128x64 off (yOf m ρ c) hs) hc) Finset.univ hx hm) >>= g) Q) := by
  have place : ∀ j : S1x128x64.Idx, (((Rect.unit (s := S32x136x64) ![k, 0, 0] S1x128x64.size inb).emb j 0).val = k)
      ∧ ((Rect.unit (s := S32x136x64) ![k, 0, 0] S1x128x64.size inb).emb j 1).val = (j 1).val
      ∧ ((Rect.unit (s := S32x136x64) ![k, 0, 0] S1x128x64.size inb).emb j 2).val = (j 2).val := by
    intro j
    have h0 : (j 0).val < 1 := (j 0).isLt
    refine ⟨(rect_emb_unit_val ..).trans ?_, (rect_emb_unit_val ..).trans ?_, (rect_emb_unit_val ..).trans ?_⟩
    · show k + (j 0).val = k; omega
    · exact Nat.zero_add _
    · exact Nat.zero_add _
  refine step_store m ρ c (upTo k) (upTo (k + 1)) _ (fun j => ?_) (fun i hi => ?_)
  · have h1 : (j 1).val < 128 := (j 1).isLt
    have h2 : (j 2).val < 64 := (j 2).isLt
    refine (block_at (yOf m ρ c) k hoff hs hc j (by omega)).trans ?_
    obtain ⟨p0, p1, p2⟩ := place j
    refine Eq.trans ?_ (filled_low (yOf m ρ c) (amaxOf m ρ c) _ (lt_of_eq_of_lt p1 h1) (by rw [p0, p2]; omega)).symm
    refine congrArg (yOf m ρ c) ?_
    refine Shape.idx_ext₂ ?_ ?_
    · exact p1.symm
    · show 64 * k + (j 2).val = 64 * _ + _
      rw [p0, p2]
  · by_cases h : (i 0).val = k
    · left
      refine ⟨(ix3 (0 : Fin 1) (⟨(i 1).val, hi.2⟩ : Fin 128) (i 2) : S1x128x64.Idx), ?_⟩
      obtain ⟨p0, p1, p2⟩ := place (ix3 (0 : Fin 1) (⟨(i 1).val, hi.2⟩ : Fin 128) (i 2))
      refine funext fun a => Fin.ext ?_
      match a with
      | ⟨0, _⟩ => exact p0.trans h.symm
      | ⟨1, _⟩ => exact p1
      | ⟨2, _⟩ => exact p2
    · right
      exact ⟨by have := hi.1; omega, hi.2⟩

/-- Storing the magnitude in the last eight rows of every slot. -/
theorem step_pad (c : Dev nD) (inb : ∀ a, (![0, 128, 0] : Fin 3 → ℕ) a + S32x8x64.size a ≤ S32x136x64.size a)
    {hl : (sendM : Memref sig .tc .vmem S32x136x64 .f32).view.LoadsAt (Rect.unit (s := S32x136x64) ![0, 128, 0] S32x8x64.size inb).toLoadRect}
    {hx : ((sendM : Memref sig .tc .vmem S32x136x64 .f32).access (Rect.unit (s := S32x136x64) ![0, 128, 0] S32x8x64.size inb)).Stores Finset.univ} {hm}
    {α : Type} {Q : α → sProp 𝕄} {g : PUnit → CoreProg F α} :
    fillSt m ρ c (upTo 32)
      ⊢ iprop(((locS c ↦[Finset.univ]{fullShare} sendC m ρ c) -∗ WP c (g ⟨⟩) Q)
          -∗ WP c (Prog.lift (.load sendM (Rect.unit (s := S32x136x64) ![0, 128, 0] S32x8x64.size inb).toLoadRect hl) >>= fun _ =>
              Prog.lift (.store sendM (Rect.unit (s := S32x136x64) ![0, 128, 0] S32x8x64.size inb) (k0_pay37 (amaxOf m ρ c)) Finset.univ hx hm) >>= g) Q) := by
  have all : (fillSt m ρ c fun _ => True) ⊢ (locS c ↦[Finset.univ]{fullShare} sendC m ρ c : sProp 𝕄) := by
    unfold fillSt
    iintro ⟨%f, %hf, Hp⟩
    obtain rfl : f = sendC m ρ c := funext fun i => hf i trivial
    iexact Hp
  have place : ∀ j : S32x8x64.Idx, ((Rect.unit (s := S32x136x64) ![0, 128, 0] S32x8x64.size inb).emb j 1).val = 128 + (j 1).val :=
    fun j => rect_emb_unit_val ..
  refine (step_store m ρ c (upTo 32) (fun _ => True) (Rect.unit (s := S32x136x64) ![0, 128, 0] S32x8x64.size inb) (w := k0_pay37 (amaxOf m ρ c)) (fun j => ?_) (fun i _ => ?_)).trans
    (wand_mono_left (wand_mono_left all))
  · refine Eq.trans ?_ (filled_high (yOf m ρ c) (amaxOf m ρ c) _ (by rw [place j]; omega)).symm
    exact pad_at (amaxOf m ρ c) j
  · by_cases h : (i 1).val < 128
    · exact .inr ⟨(i 0).isLt, h⟩
    · left
      have h1 : (i 1).val < 136 := (i 1).isLt
      refine ⟨(ix3 (i 0) (⟨(i 1).val - 128, by omega⟩ : Fin 8) (i 2) : S32x8x64.Idx), ?_⟩
      refine funext fun a => Fin.ext ?_
      match a with
      | ⟨0, _⟩ => exact (rect_emb_unit_val ..).trans (Nat.zero_add _)
      | ⟨1, _⟩ => exact (place _).trans (by show 128 + ((i 1).val - 128) = (i 1).val; omega)
      | ⟨2, _⟩ => exact (rect_emb_unit_val ..).trans (Nat.zero_add _)

/-! ## The device's own slot -/

/-- A device's own slot goes from its send buffer to its receive buffer through registers. -/
theorem step_own (c : Dev nD) {off : Fin 3 → ℕ} {inb} (hoff : off = ![c.val, 0, 0])
    {hl : (sendM : Memref sig .tc .vmem S32x136x64 .f32).view.LoadsAt (Rect.unit (s := S32x136x64) off S1x136x64.size inb).toLoadRect}
    {hl' : (recvM : Memref sig .tc .vmem S32x136x64 .f32).view.LoadsAt (Rect.unit (s := S32x136x64) off S1x136x64.size inb).toLoadRect}
    {hx : ((recvM : Memref sig .tc .vmem S32x136x64 .f32).access (Rect.unit (s := S32x136x64) off S1x136x64.size inb)).Stores Finset.univ} {hm}
    {α : Type} {Q : α → sProp 𝕄} {g : PUnit → CoreProg F α} :
    iprop((locS c ↦[Finset.univ]{fullShare} sendC m ρ c) ∗ freeSlot c c)
      ⊢ iprop((((locS c ↦[Finset.univ]{fullShare} sendC m ρ c) ∗ recvPay m ρ c c) -∗ WP c (g ⟨⟩) Q)
          -∗ WP c (Prog.lift (.load sendM (Rect.unit (s := S32x136x64) off S1x136x64.size inb).toLoadRect hl) >>= fun v =>
              Prog.lift (.load recvM (Rect.unit (s := S32x136x64) off S1x136x64.size inb).toLoadRect hl') >>= fun _ =>
              Prog.lift (.store recvM (Rect.unit (s := S32x136x64) off S1x136x64.size inb) (k0_pay38 v) Finset.univ hx hm) >>= g) Q) := by
  subst hoff
  simp only [Prog.lift, Prog.bind_op, Prog.bind_ret]
  have hset : ((recvM : Memref sig .tc .vmem S32x136x64 .f32).access (Rect.unit (s := S32x136x64) ![c.val, 0, 0] S1x136x64.size inb)).set = slotSet c := by
    show ((View.whole cc0_scratch1).slice _).set = _
    rw [View.set_slice_whole]; exact rect_set c _
  unfold freeSlot
  iintro ⟨Hs, ⟨%f, Hr⟩⟩ Hk
  iapply (wp_load 𝒱₀ (c : Thread nD τ) none Set.univ (m := sendM) (Finset.subset_univ _)) $$ Hs; iintro Hs
  iapply (wp_load_rect 𝒱₀ (c : Thread nD τ) none Set.univ (m := recvM) (r := Rect.unit (s := S32x136x64) ![c.val, 0, 0] S1x136x64.size inb) (S := slotSet c) hset.subset) $$ Hr; iintro Hr
  iapply (wp_store 𝒱₀ (c : Thread nD τ) none Set.univ (m := recvM) (r := Rect.unit (s := S32x136x64) ![c.val, 0, 0] S1x136x64.size inb) (Mk := Finset.univ)
    (S := slotSet c) (by rw [View.setOn_univ]; exact hset.subset)) $$ Hr; iintro Hr
  iapply Hk
  isplitl [Hs]; · iexact Hs
  unfold recvPay
  iapply (Entails.of_eq (pointsTo_congr (q := fullShare) (ℓ := locR c) (I := slotSet c) fun i hi => ?_)) $$ Hr
  rw [← hset] at hi
  obtain ⟨j, -, e⟩ := Finset.mem_map.mp hi
  subst e
  refine (View.write_emb_of_mem (v := (recvM : Memref sig .tc .vmem S32x136x64 .f32).access (Rect.unit (s := S32x136x64) ![c.val, 0, 0] S1x136x64.size inb)) (Val := Elt F) f _ (x := j) (Finset.mem_univ j)).trans ?_
  have hj : (Rect.unit (s := S32x136x64) ![c.val, 0, 0] S1x136x64.size inb).emb j = (ix3 c (j 1) (j 2) : S32x136x64.Idx) := by
    have h0 : (j 0).val < 1 := (j 0).isLt
    refine funext fun a => Fin.ext ?_
    match a with
    | ⟨0, _⟩ => exact (rect_emb_unit_val ..).trans (by show c.val + (j 0).val = c.val; omega)
    | ⟨1, _⟩ => exact (rect_emb_unit_val ..).trans (Nat.zero_add _)
    | ⟨2, _⟩ => exact (rect_emb_unit_val ..).trans (Nat.zero_add _)
  have e1 : ∀ v : Vec F S1x136x64 .f32, k0_pay38 v = v := fun v => by
    show shapeCast S1x136x64 (shapeCast S136x64 v _) _ = v
    exact shapeCast_shapeCast ..
  rw [e1]
  have : gath m ρ c ((Rect.unit (s := S32x136x64) ![c.val, 0, 0] S1x136x64.size inb).emb j) = sendC m ρ c ((Rect.unit (s := S32x136x64) ![c.val, 0, 0] S1x136x64.size inb).emb j) := by
    rw [hj]; rfl
  exact this.symm

end Cert.KernelIdeal.Exchange

end
-- ==== Proof.Ideal.Parts.lean ====
/-
# The parts of the kernel

The kernel in the pieces its printed text is cut into: which phase each piece starts in and which it ends in.
-/
module

public import proofs.«01_k».proof.Proof.Ideal.Fill

@[expose] public section

set_option maxRecDepth 16384

noncomputable section

namespace Cert.KernelIdeal.Exchange

open Cert.KernelIdeal Cert.KernelIdeal.Gen
open Idealize.ShloMosaic Idealize.ShloMosaic.TcCoe Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Putting steps together -/

omit [FloatOps F] in
/-- A step from `A` to `B`, then the rest from `B`; what `R` records stays. -/
theorem andThen {R A B X p q : sProp 𝕄} [Persistent R] (h : iprop(R ∗ A) ⊢ iprop((B -∗ p) -∗ q)) (h' : iprop(R ∗ B) ⊢ iprop(X -∗ p)) :
    iprop(R ∗ A) ⊢ iprop(X -∗ q) := by
  iintro ⟨#HR, HA⟩ HX
  iapply h $$ [HA]
  · isplitr; · iexact HR
    iexact HA
  iintro HB
  iapply h' $$ [HB] HX
  isplitr; · iexact HR
  iexact HB

omit [FloatOps F] in
/-- A step that needs nothing of what is recorded. -/
theorem alone {R A B p q : sProp 𝕄} (h : A ⊢ iprop((B -∗ p) -∗ q)) : iprop(R ∗ A) ⊢ iprop((B -∗ p) -∗ q) := by
  iintro ⟨-, HA⟩; iapply h; iexact HA

/-- The end of a piece whose result is not looked at. -/
theorem finish {R B : sProp 𝕄} {c : Dev nD} {β : Type} {Q : β → sProp 𝕄} (a : β) :
    iprop(R ∗ B) ⊢ iprop((∀ x, B -∗ Q x) -∗ WP c (pure a : CoreProg F β) Q) := by
  unfold WP; rw [wp_pure]
  iintro ⟨-, HB⟩ H
  imodintro
  iapply H; iexact HB

/-- The end of a piece. -/
theorem finish_at {R B : sProp 𝕄} {c : Dev nD} {β : Type} {Q : β → sProp 𝕄} (a : β) :
    iprop(R ∗ B) ⊢ iprop((B -∗ Q a) -∗ WP c (pure a : CoreProg F β) Q) := by
  unfold WP; rw [wp_pure]
  iintro ⟨-, HB⟩ H
  imodintro
  iapply H; iexact HB

/-! ## The steps at the kernel's own offsets -/

section Steps

variable (K : Dev nD × Fin 65 → ℕ) (c : Dev nD)

theorem signal (r : Fin 31) {dv : ℕ} {hlt : dv < nD} (hd : dv = (c.val + (r.val + 1)) % 32)
    {α : Type} {Q : α → sProp 𝕄} {k : PUnit → CoreProg F α} :
    iprop(records m ρ K ∗ sigSt c r.val)
      ⊢ iprop((sigSt c (r.val + 1) -∗ WP c (k ⟨⟩) Q) -∗ WP c (semSignalWord (⟨dv, hlt⟩ : Dev nD) barS 1#32 >>= k) Q) :=
  step_signal m ρ K c r.val r.isLt _ hd

/-- Block `k`'s columns are columns of the product. -/
theorem cols_inb (k : ℕ) (hk : k < 32) : S128x2048.Slices ![0, 64 * k] S128x64 := by
  refine ⟨rfl, fun a => ?_⟩
  match a with
  | ⟨0, _⟩ => show 0 + 128 ≤ 128; omega
  | ⟨1, _⟩ => show 64 * k + 64 ≤ 2048; omega

/-- Storing block `k` of the product. -/
theorem fill (k : ℕ) (hk : k < 32) {inb : ∀ a, (![k, 0, 0] : Fin 3 → ℕ) a + S1x128x64.size a ≤ S32x136x64.size a}
    {hc : S128x64.ShapeCasts S1x128x64}
    {hl : (sendM : Memref sig .tc .vmem S32x136x64 .f32).view.LoadsAt (Rect.unit (s := S32x136x64) ![k, 0, 0] S1x128x64.size inb).toLoadRect}
    {hx : ((sendM : Memref sig .tc .vmem S32x136x64 .f32).access (Rect.unit (s := S32x136x64) ![k, 0, 0] S1x128x64.size inb)).Stores Finset.univ} {hm}
    {α : Type} {Q : α → sProp 𝕄} {g : PUnit → CoreProg F α} :
    iprop(records m ρ K ∗ fillSt m ρ c (upTo k))
      ⊢ iprop((fillSt m ρ c (upTo (k + 1)) -∗ WP c (g ⟨⟩) Q)
          -∗ WP c (Prog.lift (.load sendM (Rect.unit (s := S32x136x64) ![k, 0, 0] S1x128x64.size inb).toLoadRect hl) >>= fun _ =>
              Prog.lift (.store sendM (Rect.unit (s := S32x136x64) ![k, 0, 0] S1x128x64.size inb)
                (shapeCast S1x128x64 (extractStridedSlice S128x64 ![0, 64 * k] (yOf m ρ c) (cols_inb k hk)) hc) Finset.univ hx hm) >>= g) Q) :=
  alone (step_fill m ρ c k hk inb rfl (cols_inb k hk) hc)

/-- The transfer of step `r`. -/
theorem send (r : Fin 31) {dv : ℕ} {hlt : dv < nD} (hd : dv = (c.val + (r.val + 1)) % 32)
    {hsc : (slotM recvM (k0_off4 c) (k0_off4_inb c) : Memref sig (Dev.tc (⟨dv, hlt⟩ : Dev nD) : Thread nD τ).2.kind .vmem S136x64 .f32).view.ref.isScScratch = false}
    {hsrc : (slotM sendM (k0_off5 c (BitVec.ofNat 32 (1 + r.val))) (k0_off5_inb c r)).view.WordExact} {hdw : (slotM recvM (k0_off4 c) (k0_off4_inb c)).view.WordExact}
    {hsem}
    {α : Type} {Q : α → sProp 𝕄} {k : PUnit → CoreProg F α} :
    iprop(records m ρ K ∗ xferSt m ρ c r.val)
      ⊢ iprop((xferSt m ρ c (r.val + 1) -∗ WP c (k ⟨⟩) Q)
          -∗ WP c (Prog.lift (.enqueueDma (slotM sendM (k0_off5 c (BitVec.ofNat 32 (1 + r.val))) (k0_off5_inb c r))
              (.remote (Dev.tc (⟨dv, hlt⟩ : Dev nD) : Thread nD τ) (slotM recvM (k0_off4 c) (k0_off4_inb c))
                (.dma ((cc0_scratch2.slice (Rect.unit (s := S32) (k0_off2 c (BitVec.ofNat 32 (1 + r.val))) S1.size (k0_off2_inb c r))).squeeze S_ squeezes_S1_S_).sem) hsc)
              (.dma ((cc0_scratch3.slice (Rect.unit (s := S32) (k0_off3 c) S1.size (k0_off3_inb c))).squeeze S_ squeezes_S1_S_).sem) hsrc hdw hsem) >>= k) Q) :=
  step_send m ρ K c r.val r.isLt _ hd (k0_off2_eq c r) (k0_off3_eq c) (k0_off4_eq c) (k0_off5_eq c r)

/-- The wait for the arrival from the device `r + 1` places behind. -/
theorem arrive (r : Fin 31) {hsrc : (slotM sendM (k0_off7 c (BitVec.ofNat 32 (1 + r.val))) (k0_off7_inb c r)).view.WordExact}
    {hdst : (slotM recvM (k0_off7 c (BitVec.ofNat 32 (1 + r.val))) (k0_off7_inb c r)).view.WordExact}
    {α : Type} {Q : α → sProp 𝕄} {k : PUnit → CoreProg F α} :
    iprop(records m ρ K ∗ arriveSt m ρ c r.val)
      ⊢ iprop((arriveSt m ρ c (r.val + 1) -∗ WP c (k ⟨⟩) Q)
          -∗ WP c (Prog.lift (.waitDma2 ((cc0_scratch3.slice (Rect.unit (s := S32) (k0_off6 c (BitVec.ofNat 32 (1 + r.val))) S1.size (k0_off6_inb c r))).squeeze S_ squeezes_S1_S_).sem
              (slotM sendM (k0_off7 c (BitVec.ofNat 32 (1 + r.val))) (k0_off7_inb c r)) (slotM recvM (k0_off7 c (BitVec.ofNat 32 (1 + r.val))) (k0_off7_inb c r)) hsrc hdst) >>= k) Q) :=
  step_arrive m ρ K c r.val r.isLt (k0_off6_eq c r)

/-- The wait for the departure to the device `r + 1` places ahead. -/
theorem leave (r : Fin 31) {hsrc : (slotM recvM (k0_off4 c) (k0_off4_inb c)).view.WordExact}
    {hdst : (slotM sendM (k0_off5 c (BitVec.ofNat 32 (1 + r.val))) (k0_off5_inb c r)).view.WordExact}
    {α : Type} {Q : α → sProp 𝕄} {k : PUnit → CoreProg F α} :
    iprop(records m ρ K ∗ leaveSt m ρ c r.val)
      ⊢ iprop((leaveSt m ρ c (r.val + 1) -∗ WP c (k ⟨⟩) Q)
          -∗ WP c (Prog.lift (.waitDma2 ((cc0_scratch2.slice (Rect.unit (s := S32) (k0_off2 c (BitVec.ofNat 32 (1 + r.val))) S1.size (k0_off2_inb c r))).squeeze S_ squeezes_S1_S_).sem
              (slotM recvM (k0_off4 c) (k0_off4_inb c)) (slotM sendM (k0_off5 c (BitVec.ofNat 32 (1 + r.val))) (k0_off5_inb c r)) hsrc hdst) >>= k) Q) :=
  step_leave m ρ K c r.val r.isLt (k0_off2_eq c r)

end Steps

section Parts

variable (K : Dev nD × Fin 65 → ℕ) (c : Dev nD)

/-- Signals 6 to 11. -/
theorem part2 (v2 w w' : BitVec 32) {Q : _ → sProp 𝕄} :
    iprop(records m ρ K ∗ sigSt c 5) ⊢ iprop((∀ x, sigSt c 11 -∗ Q x)
      -∗ WP c (k0_part2 xM (Memref.isWhole_whole _) wM (Memref.isWhole_whole _) oM (Memref.isWhole_whole _)
          sendM (Memref.isWhole_whole _) recvM (Memref.isWhole_whole _) cc0_scratch2 cc0_scratch3 c v2 (SemArray.scalar (sig.barrier 0 rfl)) w w' : CoreProg F _) Q) := by
  rw [k0_part2_eq_skeleton]
  exact andThen (signal m ρ K c 5 (k0_dev6_eq c)) <| andThen (signal m ρ K c 6 (k0_dev7_eq c)) <|
    andThen (signal m ρ K c 7 (k0_dev8_eq c)) <| andThen (signal m ρ K c 8 (k0_dev9_eq c)) <|
    andThen (signal m ρ K c 9 (k0_dev10_eq c)) <| andThen (signal m ρ K c 10 (k0_dev11_eq c)) <|
    finish _

/-- Signals 12 to 17. -/
theorem part3 (v2 w w' : BitVec 32) {Q : _ → sProp 𝕄} :
    iprop(records m ρ K ∗ sigSt c 11) ⊢ iprop((∀ x, sigSt c 17 -∗ Q x)
      -∗ WP c (k0_part3 xM (Memref.isWhole_whole _) wM (Memref.isWhole_whole _) oM (Memref.isWhole_whole _)
          sendM (Memref.isWhole_whole _) recvM (Memref.isWhole_whole _) cc0_scratch2 cc0_scratch3 c v2 (SemArray.scalar (sig.barrier 0 rfl)) w w' : CoreProg F _) Q) := by
  rw [k0_part3_eq_skeleton]
  exact andThen (signal m ρ K c 11 (k0_dev12_eq c)) <| andThen (signal m ρ K c 12 (k0_dev13_eq c)) <|
    andThen (signal m ρ K c 13 (k0_dev14_eq c)) <| andThen (signal m ρ K c 14 (k0_dev15_eq c)) <|
    andThen (signal m ρ K c 15 (k0_dev16_eq c)) <| andThen (signal m ρ K c 16 (k0_dev17_eq c)) <|
    finish _

/-- Signals 18 to 23. -/
theorem part4 (v2 w w' : BitVec 32) {Q : _ → sProp 𝕄} :
    iprop(records m ρ K ∗ sigSt c 17) ⊢ iprop((∀ x, sigSt c 23 -∗ Q x)
      -∗ WP c (k0_part4 xM (Memref.isWhole_whole _) wM (Memref.isWhole_whole _) oM (Memref.isWhole_whole _)
          sendM (Memref.isWhole_whole _) recvM (Memref.isWhole_whole _) cc0_scratch2 cc0_scratch3 c v2 (SemArray.scalar (sig.barrier 0 rfl)) w w' : CoreProg F _) Q) := by
  rw [k0_part4_eq_skeleton]
  exact andThen (signal m ρ K c 17 (k0_dev18_eq c)) <| andThen (signal m ρ K c 18 (k0_dev19_eq c)) <|
    andThen (signal m ρ K c 19 (k0_dev20_eq c)) <| andThen (signal m ρ K c 20 (k0_dev21_eq c)) <|
    andThen (signal m ρ K c 21 (k0_dev22_eq c)) <| andThen (signal m ρ K c 22 (k0_dev23_eq c)) <|
    finish _

/-- Signals 24 to 29. -/
theorem part5 (v2 w w' : BitVec 32) {Q : _ → sProp 𝕄} :
    iprop(records m ρ K ∗ sigSt c 23) ⊢ iprop((∀ x, sigSt c 29 -∗ Q x)
      -∗ WP c (k0_part5 xM (Memref.isWhole_whole _) wM (Memref.isWhole_whole _) oM (Memref.isWhole_whole _)
          sendM (Memref.isWhole_whole _) recvM (Memref.isWhole_whole _) cc0_scratch2 cc0_scratch3 c v2 (SemArray.scalar (sig.barrier 0 rfl)) w w' : CoreProg F _) Q) := by
  rw [k0_part5_eq_skeleton]
  exact andThen (signal m ρ K c 23 (k0_dev24_eq c)) <| andThen (signal m ρ K c 24 (k0_dev25_eq c)) <|
    andThen (signal m ρ K c 25 (k0_dev26_eq c)) <| andThen (signal m ρ K c 26 (k0_dev27_eq c)) <|
    andThen (signal m ρ K c 27 (k0_dev28_eq c)) <| andThen (signal m ρ K c 28 (k0_dev29_eq c)) <|
    finish _

/-- Slots 3 to 9 of the send buffer. -/
theorem part7 {Q : _ → sProp 𝕄} :
    iprop(records m ρ K ∗ fillSt m ρ c (upTo 3)) ⊢ iprop((fillSt m ρ c (upTo 10) -∗ Q (k0_pay13 (yOf m ρ c)))
      -∗ WP c (k0_part7 xM (Memref.isWhole_whole _) wM (Memref.isWhole_whole _) oM (Memref.isWhole_whole _)
          sendM (Memref.isWhole_whole _) recvM (Memref.isWhole_whole _) cc0_scratch2 cc0_scratch3 (yOf m ρ c) : CoreProg F _) Q) := by
  rw [k0_part7_eq_skeleton]
  exact andThen (fill m ρ K c 3 (by decide)) <| andThen (fill m ρ K c 4 (by decide)) <|
    andThen (fill m ρ K c 5 (by decide)) <| andThen (fill m ρ K c 6 (by decide)) <|
    andThen (fill m ρ K c 7 (by decide)) <| andThen (fill m ρ K c 8 (by decide)) <|
    andThen (fill m ρ K c 9 (by decide)) <|
    finish_at _

/-- Slots 10 to 17 of the send buffer. -/
theorem part8 {Q : _ → sProp 𝕄} :
    iprop(records m ρ K ∗ fillSt m ρ c (upTo 10)) ⊢ iprop((fillSt m ρ c (upTo 18) -∗ Q ⟨⟩)
      -∗ WP c (k0_part8 xM (Memref.isWhole_whole _) wM (Memref.isWhole_whole _) oM (Memref.isWhole_whole _)
          sendM (Memref.isWhole_whole _) recvM (Memref.isWhole_whole _) cc0_scratch2 cc0_scratch3 (yOf m ρ c) (k0_pay13 (yOf m ρ c)) : CoreProg F _) Q) := by
  rw [k0_part8_eq_skeleton]
  exact andThen (fill m ρ K c 10 (by decide)) <| andThen (fill m ρ K c 11 (by decide)) <|
    andThen (fill m ρ K c 12 (by decide)) <| andThen (fill m ρ K c 13 (by decide)) <|
    andThen (fill m ρ K c 14 (by decide)) <| andThen (fill m ρ K c 15 (by decide)) <|
    andThen (fill m ρ K c 16 (by decide)) <| andThen (fill m ρ K c 17 (by decide)) <|
    finish_at _

/-- Slots 18 to 24 of the send buffer. -/
theorem part9 {Q : _ → sProp 𝕄} :
    iprop(records m ρ K ∗ fillSt m ρ c (upTo 18)) ⊢ iprop((fillSt m ρ c (upTo 25) -∗ Q (k0_pay29 (yOf m ρ c)))
      -∗ WP c (k0_part9 xM (Memref.isWhole_whole _) wM (Memref.isWhole_whole _) oM (Memref.isWhole_whole _)
          sendM (Memref.isWhole_whole _) recvM (Memref.isWhole_whole _) cc0_scratch2 cc0_scratch3 (yOf m ρ c) : CoreProg F _) Q) := by
  rw [k0_part9_eq_skeleton]
  exact andThen (fill m ρ K c 18 (by decide)) <| andThen (fill m ρ K c 19 (by decide)) <|
    andThen (fill m ρ K c 20 (by decide)) <| andThen (fill m ρ K c 21 (by decide)) <|
    andThen (fill m ρ K c 22 (by decide)) <| andThen (fill m ρ K c 23 (by decide)) <|
    andThen (fill m ρ K c 24 (by decide)) <|
    finish_at _

/-- The last slots of the send buffer, and the rows of the magnitude. -/
theorem part10 {Q : _ → sProp 𝕄} :
    iprop(records m ρ K ∗ fillSt m ρ c (upTo 25)) ⊢ iprop(((locS c ↦[Finset.univ]{fullShare} sendC m ρ c) -∗ Q ⟨⟩)
      -∗ WP c (k0_part10 xM (Memref.isWhole_whole _) wM (Memref.isWhole_whole _) oM (Memref.isWhole_whole _)
          sendM (Memref.isWhole_whole _) recvM (Memref.isWhole_whole _) cc0_scratch2 cc0_scratch3 (yOf m ρ c) (amaxOf m ρ c) (k0_pay29 (yOf m ρ c)) : CoreProg F _) Q) := by
  rw [k0_part10_eq_skeleton]
  exact andThen (fill m ρ K c 25 (by decide)) <| andThen (fill m ρ K c 26 (by decide)) <|
    andThen (fill m ρ K c 27 (by decide)) <| andThen (fill m ρ K c 28 (by decide)) <|
    andThen (fill m ρ K c 29 (by decide)) <| andThen (fill m ρ K c 30 (by decide)) <|
    andThen (fill m ρ K c 31 (by decide)) <| andThen (alone (step_pad m ρ c _)) <|
    finish_at _

/-- Transfers 3 to 5. -/
theorem part12 (v2 w : BitVec 32) {Q : _ → sProp 𝕄} :
    iprop(records m ρ K ∗ xferSt m ρ c 2) ⊢ iprop((∀ x, xferSt m ρ c 5 -∗ Q x)
      -∗ WP c (k0_part12 xM (Memref.isWhole_whole _) wM (Memref.isWhole_whole _) oM (Memref.isWhole_whole _)
          sendM (Memref.isWhole_whole _) recvM (Memref.isWhole_whole _) cc0_scratch2 cc0_scratch3 c v2 w : CoreProg F _) Q) := by
  rw [k0_part12_eq_skeleton]
  exact andThen (send m ρ K c 2 (k0_dev34_eq c)) <| andThen (send m ρ K c 3 (k0_dev35_eq c)) <|
    andThen (send m ρ K c 4 (k0_dev36_eq c)) <|
    finish _

/-- Transfers 6 to 8. -/
theorem part13 (v2 w w' : BitVec 32) {Q : _ → sProp 𝕄} :
    iprop(records m ρ K ∗ xferSt m ρ c 5) ⊢ iprop((∀ x, xferSt m ρ c 8 -∗ Q x)
      -∗ WP c (k0_part13 xM (Memref.isWhole_whole _) wM (Memref.isWhole_whole _) oM (Memref.isWhole_whole _)
          sendM (Memref.isWhole_whole _) recvM (Memref.isWhole_whole _) cc0_scratch2 cc0_scratch3 c v2 w w' : CoreProg F _) Q) := by
  rw [k0_part13_eq_skeleton]
  exact andThen (send m ρ K c 5 (k0_dev37_eq c)) <| andThen (send m ρ K c 6 (k0_dev38_eq c)) <|
    andThen (send m ρ K c 7 (k0_dev39_eq c)) <|
    finish _

/-- Transfers 9 to 10. -/
theorem part14 (v2 : BitVec 32) {Q : _ → sProp 𝕄} :
    iprop(records m ρ K ∗ xferSt m ρ c 8) ⊢ iprop((∀ x, xferSt m ρ c 10 -∗ Q x)
      -∗ WP c (k0_part14 xM (Memref.isWhole_whole _) wM (Memref.isWhole_whole _) oM (Memref.isWhole_whole _)
          sendM (Memref.isWhole_whole _) recvM (Memref.isWhole_whole _) cc0_scratch2 cc0_scratch3 c v2 : CoreProg F _) Q) := by
  rw [k0_part14_eq_skeleton]
  exact andThen (send m ρ K c 8 (k0_dev40_eq c)) <| andThen (send m ρ K c 9 (k0_dev41_eq c)) <|
    finish _

/-- Transfers 11 to 13. -/
theorem part15 (v2 : BitVec 32) {Q : _ → sProp 𝕄} :
    iprop(records m ρ K ∗ xferSt m ρ c 10) ⊢ iprop((∀ x, xferSt m ρ c 13 -∗ Q x)
      -∗ WP c (k0_part15 xM (Memref.isWhole_whole _) wM (Memref.isWhole_whole _) oM (Memref.isWhole_whole _)
          sendM (Memref.isWhole_whole _) recvM (Memref.isWhole_whole _) cc0_scratch2 cc0_scratch3 c v2 : CoreProg F _) Q) := by
  rw [k0_part15_eq_skeleton]
  exact andThen (send m ρ K c 10 (k0_dev42_eq c)) <| andThen (send m ρ K c 11 (k0_dev43_eq c)) <|
    andThen (send m ρ K c 12 (k0_dev44_eq c)) <|
    finish _

/-- Transfers 14 to 16. -/
theorem part16 (v2 : BitVec 32) {Q : _ → sProp 𝕄} :
    iprop(records m ρ K ∗ xferSt m ρ c 13) ⊢ iprop((∀ x, xferSt m ρ c 16 -∗ Q x)
      -∗ WP c (k0_part16 xM (Memref.isWhole_whole _) wM (Memref.isWhole_whole _) oM (Memref.isWhole_whole _)
          sendM (Memref.isWhole_whole _) recvM (Memref.isWhole_whole _) cc0_scratch2 cc0_scratch3 c v2 : CoreProg F _) Q) := by
  rw [k0_part16_eq_skeleton]
  exact andThen (send m ρ K c 13 (k0_dev45_eq c)) <| andThen (send m ρ K c 14 (k0_dev46_eq c)) <|
    andThen (send m ρ K c 15 (k0_dev47_eq c)) <|
    finish _

/-- Transfers 17 to 19. -/
theorem part17 (v2 : BitVec 32) {Q : _ → sProp 𝕄} :
    iprop(records m ρ K ∗ xferSt m ρ c 16) ⊢ iprop((∀ x, xferSt m ρ c 19 -∗ Q x)
      -∗ WP c (k0_part17 xM (Memref.isWhole_whole _) wM (Memref.isWhole_whole _) oM (Memref.isWhole_whole _)
          sendM (Memref.isWhole_whole _) recvM (Memref.isWhole_whole _) cc0_scratch2 cc0_scratch3 c v2 : CoreProg F _) Q) := by
  rw [k0_part17_eq_skeleton]
  exact andThen (send m ρ K c 16 (k0_dev48_eq c)) <| andThen (send m ρ K c 17 (k0_dev49_eq c)) <|
    andThen (send m ρ K c 18 (k0_dev50_eq c)) <|
    finish _

/-- Transfers 20 to 22. -/
theorem part18 (v2 : BitVec 32) {Q : _ → sProp 𝕄} :
    iprop(records m ρ K ∗ xferSt m ρ c 19) ⊢ iprop((∀ x, xferSt m ρ c 22 -∗ Q x)
      -∗ WP c (k0_part18 xM (Memref.isWhole_whole _) wM (Memref.isWhole_whole _) oM (Memref.isWhole_whole _)
          sendM (Memref.isWhole_whole _) recvM (Memref.isWhole_whole _) cc0_scratch2 cc0_scratch3 c v2 : CoreProg F _) Q) := by
  rw [k0_part18_eq_skeleton]
  exact andThen (send m ρ K c 19 (k0_dev51_eq c)) <| andThen (send m ρ K c 20 (k0_dev52_eq c)) <|
    andThen (send m ρ K c 21 (k0_dev53_eq c)) <|
    finish _

/-- Transfers 23 to 25. -/
theorem part19 (v2 w : BitVec 32) {Q : _ → sProp 𝕄} :
    iprop(records m ρ K ∗ xferSt m ρ c 22) ⊢ iprop((∀ x, xferSt m ρ c 25 -∗ Q x)
      -∗ WP c (k0_part19 xM (Memref.isWhole_whole _) wM (Memref.isWhole_whole _) oM (Memref.isWhole_whole _)
          sendM (Memref.isWhole_whole _) recvM (Memref.isWhole_whole _) cc0_scratch2 cc0_scratch3 c v2 w : CoreProg F _) Q) := by
  rw [k0_part19_eq_skeleton]
  exact andThen (send m ρ K c 22 (k0_dev54_eq c)) <| andThen (send m ρ K c 23 (k0_dev55_eq c)) <|
    andThen (send m ρ K c 24 (k0_dev56_eq c)) <|
    finish _

/-- Transfers 26 to 28. -/
theorem part20 (v2 w w' : BitVec 32) {Q : _ → sProp 𝕄} :
    iprop(records m ρ K ∗ xferSt m ρ c 25) ⊢ iprop((∀ x, xferSt m ρ c 28 -∗ Q x)
      -∗ WP c (k0_part20 xM (Memref.isWhole_whole _) wM (Memref.isWhole_whole _) oM (Memref.isWhole_whole _)
          sendM (Memref.isWhole_whole _) recvM (Memref.isWhole_whole _) cc0_scratch2 cc0_scratch3 c v2 w w' : CoreProg F _) Q) := by
  rw [k0_part20_eq_skeleton]
  exact andThen (send m ρ K c 25 (k0_dev57_eq c)) <| andThen (send m ρ K c 26 (k0_dev58_eq c)) <|
    andThen (send m ρ K c 27 (k0_dev59_eq c)) <|
    finish _

/-- Transfers 29 to 30. -/
theorem part21 (v2 : BitVec 32) {Q : _ → sProp 𝕄} :
    iprop(records m ρ K ∗ xferSt m ρ c 28) ⊢ iprop((∀ x, xferSt m ρ c 30 -∗ Q x)
      -∗ WP c (k0_part21 xM (Memref.isWhole_whole _) wM (Memref.isWhole_whole _) oM (Memref.isWhole_whole _)
          sendM (Memref.isWhole_whole _) recvM (Memref.isWhole_whole _) cc0_scratch2 cc0_scratch3 c v2 : CoreProg F _) Q) := by
  rw [k0_part21_eq_skeleton]
  exact andThen (send m ρ K c 28 (k0_dev60_eq c)) <| andThen (send m ρ K c 29 (k0_dev61_eq c)) <|
    finish _

/-- Arrivals 3 to 5. -/
theorem part23 (v2 : BitVec 32) {Q : _ → sProp 𝕄} :
    iprop(records m ρ K ∗ arriveSt m ρ c 2) ⊢ iprop((∀ x, arriveSt m ρ c 5 -∗ Q x)
      -∗ WP c (k0_part23 xM (Memref.isWhole_whole _) wM (Memref.isWhole_whole _) oM (Memref.isWhole_whole _)
          sendM (Memref.isWhole_whole _) recvM (Memref.isWhole_whole _) cc0_scratch2 cc0_scratch3 c v2 : CoreProg F _) Q) := by
  rw [k0_part23_eq_skeleton]
  exact andThen (arrive m ρ K c 2) <| andThen (arrive m ρ K c 3) <|
    andThen (arrive m ρ K c 4) <|
    finish _

/-- Arrivals 6 to 8. -/
theorem part24 (v2 : BitVec 32) {Q : _ → sProp 𝕄} :
    iprop(records m ρ K ∗ arriveSt m ρ c 5) ⊢ iprop((∀ x, arriveSt m ρ c 8 -∗ Q x)
      -∗ WP c (k0_part24 xM (Memref.isWhole_whole _) wM (Memref.isWhole_whole _) oM (Memref.isWhole_whole _)
          sendM (Memref.isWhole_whole _) recvM (Memref.isWhole_whole _) cc0_scratch2 cc0_scratch3 c v2 : CoreProg F _) Q) := by
  rw [k0_part24_eq_skeleton]
  exact andThen (arrive m ρ K c 5) <| andThen (arrive m ρ K c 6) <|
    andThen (arrive m ρ K c 7) <|
    finish _

/-- Arrivals 9 to 11. -/
theorem part25 (v2 w w' : BitVec 32) {Q : _ → sProp 𝕄} :
    iprop(records m ρ K ∗ arriveSt m ρ c 8) ⊢ iprop((∀ x, arriveSt m ρ c 11 -∗ Q x)
      -∗ WP c (k0_part25 xM (Memref.isWhole_whole _) wM (Memref.isWhole_whole _) oM (Memref.isWhole_whole _)
          sendM (Memref.isWhole_whole _) recvM (Memref.isWhole_whole _) cc0_scratch2 cc0_scratch3 c v2 w w' : CoreProg F _) Q) := by
  rw [k0_part25_eq_skeleton]
  exact andThen (arrive m ρ K c 8) <| andThen (arrive m ρ K c 9) <|
    andThen (arrive m ρ K c 10) <|
    finish _

/-- Arrivals 12 to 14. -/
theorem part26 (v2 w : BitVec 32) {Q : _ → sProp 𝕄} :
    iprop(records m ρ K ∗ arriveSt m ρ c 11) ⊢ iprop((∀ x, arriveSt m ρ c 14 -∗ Q x)
      -∗ WP c (k0_part26 xM (Memref.isWhole_whole _) wM (Memref.isWhole_whole _) oM (Memref.isWhole_whole _)
          sendM (Memref.isWhole_whole _) recvM (Memref.isWhole_whole _) cc0_scratch2 cc0_scratch3 c v2 w : CoreProg F _) Q) := by
  rw [k0_part26_eq_skeleton]
  exact andThen (arrive m ρ K c 11) <| andThen (arrive m ρ K c 12) <|
    andThen (arrive m ρ K c 13) <|
    finish _

/-- Arrivals 15 to 17. -/
theorem part27 (v2 w w' : BitVec 32) {Q : _ → sProp 𝕄} :
    iprop(records m ρ K ∗ arriveSt m ρ c 14) ⊢ iprop((∀ x, arriveSt m ρ c 17 -∗ Q x)
      -∗ WP c (k0_part27 xM (Memref.isWhole_whole _) wM (Memref.isWhole_whole _) oM (Memref.isWhole_whole _)
          sendM (Memref.isWhole_whole _) recvM (Memref.isWhole_whole _) cc0_scratch2 cc0_scratch3 c v2 w w' : CoreProg F _) Q) := by
  rw [k0_part27_eq_skeleton]
  exact andThen (arrive m ρ K c 14) <| andThen (arrive m ρ K c 15) <|
    andThen (arrive m ρ K c 16) <|
    finish _

/-- Arrivals 18 to 19. -/
theorem part28 (v2 : BitVec 32) {Q : _ → sProp 𝕄} :
    iprop(records m ρ K ∗ arriveSt m ρ c 17) ⊢ iprop((∀ x, arriveSt m ρ c 19 -∗ Q x)
      -∗ WP c (k0_part28 xM (Memref.isWhole_whole _) wM (Memref.isWhole_whole _) oM (Memref.isWhole_whole _)
          sendM (Memref.isWhole_whole _) recvM (Memref.isWhole_whole _) cc0_scratch2 cc0_scratch3 c v2 : CoreProg F _) Q) := by
  rw [k0_part28_eq_skeleton]
  exact andThen (arrive m ρ K c 17) <| andThen (arrive m ρ K c 18) <|
    finish _

/-- Arrivals 20 to 22. -/
theorem part29 (v2 : BitVec 32) {Q : _ → sProp 𝕄} :
    iprop(records m ρ K ∗ arriveSt m ρ c 19) ⊢ iprop((∀ x, arriveSt m ρ c 22 -∗ Q x)
      -∗ WP c (k0_part29 xM (Memref.isWhole_whole _) wM (Memref.isWhole_whole _) oM (Memref.isWhole_whole _)
          sendM (Memref.isWhole_whole _) recvM (Memref.isWhole_whole _) cc0_scratch2 cc0_scratch3 c v2 : CoreProg F _) Q) := by
  rw [k0_part29_eq_skeleton]
  exact andThen (arrive m ρ K c 19) <| andThen (arrive m ρ K c 20) <|
    andThen (arrive m ρ K c 21) <|
    finish _

/-- Arrivals 23 to 25. -/
theorem part30 (v2 : BitVec 32) {Q : _ → sProp 𝕄} :
    iprop(records m ρ K ∗ arriveSt m ρ c 22) ⊢ iprop((∀ x, arriveSt m ρ c 25 -∗ Q x)
      -∗ WP c (k0_part30 xM (Memref.isWhole_whole _) wM (Memref.isWhole_whole _) oM (Memref.isWhole_whole _)
          sendM (Memref.isWhole_whole _) recvM (Memref.isWhole_whole _) cc0_scratch2 cc0_scratch3 c v2 : CoreProg F _) Q) := by
  rw [k0_part30_eq_skeleton]
  exact andThen (arrive m ρ K c 22) <| andThen (arrive m ρ K c 23) <|
    andThen (arrive m ρ K c 24) <|
    finish _

/-- Arrivals 26 to 28. -/
theorem part31 (v2 : BitVec 32) {Q : _ → sProp 𝕄} :
    iprop(records m ρ K ∗ arriveSt m ρ c 25) ⊢ iprop((∀ x, arriveSt m ρ c 28 -∗ Q x)
      -∗ WP c (k0_part31 xM (Memref.isWhole_whole _) wM (Memref.isWhole_whole _) oM (Memref.isWhole_whole _)
          sendM (Memref.isWhole_whole _) recvM (Memref.isWhole_whole _) cc0_scratch2 cc0_scratch3 c v2 : CoreProg F _) Q) := by
  rw [k0_part31_eq_skeleton]
  exact andThen (arrive m ρ K c 25) <| andThen (arrive m ρ K c 26) <|
    andThen (arrive m ρ K c 27) <|
    finish _

/-- Departures 3 to 7. -/
theorem part34 {Q : _ → sProp 𝕄} :
    iprop(records m ρ K ∗ leaveSt m ρ c 2) ⊢ iprop((∀ x, leaveSt m ρ c 7 -∗ Q x)
      -∗ WP c (k0_part34 xM (Memref.isWhole_whole _) wM (Memref.isWhole_whole _) oM (Memref.isWhole_whole _)
          sendM (Memref.isWhole_whole _) recvM (Memref.isWhole_whole _) cc0_scratch2 cc0_scratch3 c : CoreProg F _) Q) := by
  rw [k0_part34_eq_skeleton]
  exact andThen (leave m ρ K c 2) <| andThen (leave m ρ K c 3) <|
    andThen (leave m ρ K c 4) <| andThen (leave m ρ K c 5) <|
    andThen (leave m ρ K c 6) <|
    finish _

/-- Departures 8 to 12. -/
theorem part35 {Q : _ → sProp 𝕄} :
    iprop(records m ρ K ∗ leaveSt m ρ c 7) ⊢ iprop((∀ x, leaveSt m ρ c 12 -∗ Q x)
      -∗ WP c (k0_part35 xM (Memref.isWhole_whole _) wM (Memref.isWhole_whole _) oM (Memref.isWhole_whole _)
          sendM (Memref.isWhole_whole _) recvM (Memref.isWhole_whole _) cc0_scratch2 cc0_scratch3 c : CoreProg F _) Q) := by
  rw [k0_part35_eq_skeleton]
  exact andThen (leave m ρ K c 7) <| andThen (leave m ρ K c 8) <|
    andThen (leave m ρ K c 9) <| andThen (leave m ρ K c 10) <|
    andThen (leave m ρ K c 11) <|
    finish _

/-- Departures 13 to 17. -/
theorem part36 {Q : _ → sProp 𝕄} :
    iprop(records m ρ K ∗ leaveSt m ρ c 12) ⊢ iprop((∀ x, leaveSt m ρ c 17 -∗ Q x)
      -∗ WP c (k0_part36 xM (Memref.isWhole_whole _) wM (Memref.isWhole_whole _) oM (Memref.isWhole_whole _)
          sendM (Memref.isWhole_whole _) recvM (Memref.isWhole_whole _) cc0_scratch2 cc0_scratch3 c : CoreProg F _) Q) := by
  rw [k0_part36_eq_skeleton]
  exact andThen (leave m ρ K c 12) <| andThen (leave m ρ K c 13) <|
    andThen (leave m ρ K c 14) <| andThen (leave m ρ K c 15) <|
    andThen (leave m ρ K c 16) <|
    finish _

/-- Departures 18 to 22. -/
theorem part37 {Q : _ → sProp 𝕄} :
    iprop(records m ρ K ∗ leaveSt m ρ c 17) ⊢ iprop((∀ x, leaveSt m ρ c 22 -∗ Q x)
      -∗ WP c (k0_part37 xM (Memref.isWhole_whole _) wM (Memref.isWhole_whole _) oM (Memref.isWhole_whole _)
          sendM (Memref.isWhole_whole _) recvM (Memref.isWhole_whole _) cc0_scratch2 cc0_scratch3 c : CoreProg F _) Q) := by
  rw [k0_part37_eq_skeleton]
  exact andThen (leave m ρ K c 17) <| andThen (leave m ρ K c 18) <|
    andThen (leave m ρ K c 19) <| andThen (leave m ρ K c 20) <|
    andThen (leave m ρ K c 21) <|
    finish _

/-- Departures 23 to 27. -/
theorem part38 {Q : _ → sProp 𝕄} :
    iprop(records m ρ K ∗ leaveSt m ρ c 22) ⊢ iprop((∀ x, leaveSt m ρ c 27 -∗ Q x)
      -∗ WP c (k0_part38 xM (Memref.isWhole_whole _) wM (Memref.isWhole_whole _) oM (Memref.isWhole_whole _)
          sendM (Memref.isWhole_whole _) recvM (Memref.isWhole_whole _) cc0_scratch2 cc0_scratch3 c : CoreProg F _) Q) := by
  rw [k0_part38_eq_skeleton]
  exact andThen (leave m ρ K c 22) <| andThen (leave m ρ K c 23) <|
    andThen (leave m ρ K c 24) <| andThen (leave m ρ K c 25) <|
    andThen (leave m ρ K c 26) <|
    finish _

end Parts
end Cert.KernelIdeal.Exchange

end
-- ==== Proof.Ideal.Whole.lean ====
/-
# Buffers as their slots

A buffer of thirty-two slots is a device's own slot and the thirty-one slots of its partners, listed by the step that
uses them; from there come the parts of the kernel that pass from one phase to the next.
-/
module

public import proofs.«01_k».proof.Proof.Ideal.Parts

@[expose] public section

set_option maxRecDepth 16384

noncomputable section

namespace Cert.KernelIdeal.Exchange

open Cert.KernelIdeal Cert.KernelIdeal.Gen
open Idealize.ShloMosaic Idealize.ShloMosaic.TcCoe Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## All the devices: one and the others -/

omit [FloatOps F] in
theorem devices_by_peer (c : Dev nD) (Φ : Dev nD → sProp 𝕄) :
    bigSep Finset.univ Φ = iprop(Φ c ∗ bigSep (Finset.Ico 0 31) fun r => Φ (peer c r)) := by
  rw [← Finset.insert_erase (Finset.mem_univ c), ← image_peer c, bigSep_insert (by rw [image_peer]; exact Finset.notMem_erase _ _),
    bigSep_image_of_injOn (peer_injOn c)]
  rfl
omit [FloatOps F] in
theorem devices_by_src (c : Dev nD) (Φ : Dev nD → sProp 𝕄) :
    bigSep Finset.univ Φ = iprop(Φ c ∗ bigSep (Finset.Ico 0 31) fun r => Φ (src c r)) := by
  rw [← Finset.insert_erase (Finset.mem_univ c), ← image_src c, bigSep_insert (by rw [image_src]; exact Finset.notMem_erase _ _),
    bigSep_image_of_injOn (src_injOn c)]
  rfl

omit [FloatOps F] in
theorem send_slots (c : Dev nD) (f : Buf (Elt F) (locS c)) :
    (locS c ↦[Finset.univ]{fullShare} f : sProp 𝕄) = bigSep Finset.univ fun k : Dev nD => locS c ↦[slotSet k]{fullShare} f := by
  rw [← pointsTo_biUnion (ℓ := locS c) Finset.univ slotSet (fun a _ b _ h => slotSet_disjoint h), biUnion_slotSet]
omit [FloatOps F] in
theorem recv_slots (c : Dev nD) (f : Buf (Elt F) (locR c)) :
    (locR c ↦[Finset.univ]{fullShare} f : sProp 𝕄) = bigSep Finset.univ fun k : Dev nD => locR c ↦[slotSet k]{fullShare} f := by
  rw [← pointsTo_biUnion (ℓ := locR c) Finset.univ slotSet (fun a _ b _ h => slotSet_disjoint h), biUnion_slotSet]

theorem send_split (c : Dev nD) : (locS c ↦[Finset.univ]{fullShare} sendC m ρ c : sProp 𝕄)
    = iprop(sendPay m ρ c c ∗ bigSep (Finset.Ico 0 31) fun r => sendPay m ρ c (peer c r)) := by
  rw [send_slots]; exact devices_by_peer c fun k => sendPay m ρ c k
theorem recv_split (c : Dev nD) : (locR c ↦[Finset.univ]{fullShare} gath m ρ c : sProp 𝕄)
    = iprop(recvPay m ρ c c ∗ bigSep (Finset.Ico 0 31) fun r => recvPay m ρ c (src c r)) := by
  rw [recv_slots]; exact devices_by_src c fun k => recvPay m ρ c k
omit [FloatOps F] in
theorem free_of (c k : Dev nD) (f : Buf (Elt F) (locR c)) : (locR c ↦[slotSet k]{fullShare} f : sProp 𝕄) ⊢ freeSlot c k := by
  unfold freeSlot; iintro H; iexists f; iexact H
omit [FloatOps F] in
theorem free_split (c : Dev nD) : iprop(∃ f : Buf (Elt F) (locR c), locR c ↦[Finset.univ]{fullShare} f)
    ⊢ (iprop(freeSlot c c ∗ bigSep (Finset.Ico 0 31) fun r => freeSlot c (peer c r)) : sProp 𝕄) := by
  iintro ⟨%f, H⟩
  ihave H' := (Entails.of_eq ((recv_slots c f).trans (devices_by_peer c _))) $$ H
  have hmono : (bigSep (Finset.Ico 0 31) fun r => locR c ↦[slotSet (peer c r)]{fullShare} f : sProp 𝕄) ⊢ bigSep (Finset.Ico 0 31) fun r => freeSlot c (peer c r) := by
    refine bigSep_mono fun r _ => ?_
    exact free_of c (peer c r) f
  icases H' with ⟨H1, H2⟩
  isplitl [H1]; · (unfold freeSlot; iexists f; iexact H1)
  iapply hmono; iexact H2

/-! ## Putting parts together -/

omit [FloatOps F] in
/-- The same resources grouped otherwise. -/
theorem regroup {R A A' X p : sProp 𝕄} (h : A ⊢ A') (h' : iprop(R ∗ A') ⊢ iprop(X -∗ p)) : iprop(R ∗ A) ⊢ iprop(X -∗ p) := by
  iintro ⟨HR, HA⟩; iapply h'; isplitl [HR]; · iexact HR
  iapply h; iexact HA

/-- A part whose result is not looked at, then the rest; `G` is not touched by the part. -/
theorem call {R A B G X : sProp 𝕄} [Persistent R] {c : Dev nD} {β α : Type} {p : CoreProg F β} {k : β → CoreProg F α} {Q : α → sProp 𝕄}
    (h : ∀ {Q' : β → sProp 𝕄}, iprop(R ∗ A) ⊢ iprop((∀ x, B -∗ Q' x) -∗ WP c p Q'))
    (h' : ∀ x, iprop(R ∗ (B ∗ G)) ⊢ iprop(X -∗ WP c (k x) Q)) :
    iprop(R ∗ (A ∗ G)) ⊢ iprop(X -∗ WP c (p >>= k) Q) := by
  unfold WP at h h' ⊢
  rw [wp_bind]
  iintro ⟨#HR, HA, HG⟩ HX
  iapply h $$ [HA]
  · isplitr; · iexact HR
    iexact HA
  iintro %x HB
  iapply (h' x) $$ [HB HG] HX
  isplitr; · iexact HR
  isplitl [HB] <;> iassumption

/-- A part with result `a`, then the rest. -/
theorem callAt {R A B G X : sProp 𝕄} [Persistent R] {c : Dev nD} {β α : Type} {p : CoreProg F β} {k : β → CoreProg F α} {Q : α → sProp 𝕄} {a : β}
    (h : ∀ {Q' : β → sProp 𝕄}, iprop(R ∗ A) ⊢ iprop((B -∗ Q' a) -∗ WP c p Q'))
    (h' : iprop(R ∗ (B ∗ G)) ⊢ iprop(X -∗ WP c (k a) Q)) :
    iprop(R ∗ (A ∗ G)) ⊢ iprop(X -∗ WP c (p >>= k) Q) := by
  unfold WP at h h' ⊢
  rw [wp_bind]
  iintro ⟨#HR, HA, HG⟩ HX
  iapply h $$ [HA]
  · isplitr; · iexact HR
    iexact HA
  iintro HB
  iapply h' $$ [HB HG] HX
  isplitr; · iexact HR
  isplitl [HB] <;> iassumption

omit [FloatOps F] in
/-- A step that leaves `G` alone. -/
theorem framed {R A B G p q : sProp 𝕄} (h : iprop(R ∗ A) ⊢ iprop((B -∗ p) -∗ q)) : iprop(R ∗ (A ∗ G)) ⊢ iprop(((B ∗ G) -∗ p) -∗ q) := by
  iintro ⟨HR, HA, HG⟩ H
  iapply h $$ [HR HA]
  · isplitl [HR] <;> iassumption
  iintro HB
  iapply H
  isplitl [HB] <;> iassumption

/-! ## Between the phases -/

section Parts

variable (K : Dev nD × Fin 65 → ℕ) (c : Dev nD)

/-- The kernel asks for its device first. -/
theorem device {R A : sProp 𝕄} {α : Type} {Q : α → sProp 𝕄} {k : Dev nD → CoreProg F α} :
    iprop(R ∗ A) ⊢ iprop((A -∗ WP c (k c) Q) -∗ WP c (Prog.lift .deviceId >>= k) Q) := by
  unfold WP
  simp only [Prog.lift, Prog.bind_op, Prog.bind_ret]
  rw [wp_deviceId]
  iintro ⟨-, HA⟩ H; iapply H; iexact HA

/-- The device, and signals 1 to 5. -/
theorem part1 {Q : _ → sProp 𝕄} :
    iprop(records m ρ K ∗ sigSt c 0) ⊢ iprop((∀ w w' w'', sigSt c 5 -∗ Q ⟨c, w, SemArray.scalar (sig.barrier 0 rfl), w', w''⟩)
      -∗ WP c (k0_part1 xM (Memref.isWhole_whole _) wM (Memref.isWhole_whole _) oM (Memref.isWhole_whole _)
          sendM (Memref.isWhole_whole _) recvM (Memref.isWhole_whole _) cc0_scratch2 cc0_scratch3 : CoreProg F _) Q) := by
  have hfin : ∀ w w' w'', iprop(records m ρ K ∗ sigSt c 5) ⊢ iprop((∀ w w' w'', sigSt c 5 -∗ Q ⟨c, w, SemArray.scalar (sig.barrier 0 rfl), w', w''⟩)
      -∗ WP c (pure ⟨c, w, SemArray.scalar (sig.barrier 0 rfl), w', w''⟩ : CoreProg F _) Q) := by
    intro w w' w''
    unfold WP; rw [wp_pure]
    iintro ⟨-, H⟩ HQ; imodintro
    iapply HQ; iexact H
  rw [k0_part1_eq_skeleton]
  exact andThen (device c) <| andThen (signal m ρ K c 0 (k0_dev1_eq c)) <| andThen (signal m ρ K c 1 (k0_dev2_eq c)) <|
    andThen (signal m ρ K c 2 (k0_dev3_eq c)) <| andThen (signal m ρ K c 3 (k0_dev4_eq c)) <| andThen (signal m ρ K c 4 (k0_dev5_eq c)) <| hfin _ _ _

/-- The two factors, where the kernel reads them. -/
def factors : sProp 𝕄 :=
  iprop(((c : Thread nD τ).loc cc0_stg0_0 ↦[Finset.univ]{fullShare} xstg m ρ c) ∗ ((c : Thread nD τ).loc cc0_stg1_0 ↦[Finset.univ]{fullShare} wstg m ρ c))

theorem load_factors (rx : ∀ a, (![0, 0] : Fin 2 → ℕ) a + S128x4096.size a ≤ S128x4096.size a) (rw' : ∀ a, (![0, 0] : Fin 2 → ℕ) a + S4096x2048.size a ≤ S4096x2048.size a)
    {R : sProp 𝕄} {hx hw} {α : Type} {Q : α → sProp 𝕄} {k : Vec F S128x4096 .f32 → Vec F S4096x2048 .f32 → CoreProg F α} :
    iprop(R ∗ factors m ρ c) ⊢ iprop((factors m ρ c -∗ WP c (k (xstg m ρ c) (wstg m ρ c)) Q)
      -∗ WP c (Prog.lift (.load xM (Rect.unit (s := S128x4096) ![0, 0] S128x4096.size rx).toLoadRect hx) >>= fun v =>
          Prog.lift (.load wM (Rect.unit (s := S4096x2048) ![0, 0] S4096x2048.size rw').toLoadRect hw) >>= fun v' => k v v') Q) := by
  simp only [Prog.lift, Prog.bind_op, Prog.bind_ret]
  have hz : (![0, 0] : Fin 2 → ℕ) = fun _ => 0 := funext fun a => by fin_cases a <;> rfl
  have ex : (xM : Memref sig .tc .vmem S128x4096 .f32).view.readAt (Elt F) (Rect.unit (s := S128x4096) ![0, 0] S128x4096.size rx).toLoadRect (xstg m ρ c) = xstg m ρ c :=
    Memref.readAt_unit_zero (Elt F) cc0_stg0_0 hz _ _
  have ew : (wM : Memref sig .tc .vmem S4096x2048 .f32).view.readAt (Elt F) (Rect.unit (s := S4096x2048) ![0, 0] S4096x2048.size rw').toLoadRect (wstg m ρ c) = wstg m ρ c :=
    Memref.readAt_unit_zero (Elt F) cc0_stg1_0 hz _ _
  unfold factors
  iintro ⟨-, Hx, Hw⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [ex, ew]
  iapply Hk
  isplitl [Hx] <;> iassumption

/-- What the barrier and the product need, and what they leave. -/
def atBarrier : sProp 𝕄 := iprop(levAts L lv ∗ cred (tallyAt (barCell c) () 31) ∗ atPos ER (barCell c) 0 ∅ 0 ∗ factors m ρ c ∗ fillSt m ρ c (upTo 0))
def pastBarrier : sProp 𝕄 :=
  iprop((∃ W, owes (c : Thread nD τ) (owedX c 0) W) ∗ atPos ER (barCell c) 1 ∅ 0 ∗ (bigSep (Finset.Ico 0 31) fun r => freeSlot (peer c r) c) ∗ factors m ρ c)

/-- The last two signals, the barrier, the product, and the first three slots of the send buffer. -/
theorem part6 (v2 w w' : BitVec 32) {Q : _ → sProp 𝕄} :
    iprop(records m ρ K ∗ (sigSt c 29 ∗ atBarrier m ρ c)) ⊢ iprop(((fillSt m ρ c (upTo 3) ∗ pastBarrier m ρ c) -∗ Q ⟨yOf m ρ c, amaxOf m ρ c⟩)
      -∗ WP c (k0_part6 xM (Memref.isWhole_whole _) wM (Memref.isWhole_whole _) oM (Memref.isWhole_whole _)
          sendM (Memref.isWhole_whole _) recvM (Memref.isWhole_whole _) cc0_scratch2 cc0_scratch3 c v2 (SemArray.scalar (sig.barrier 0 rfl)) w w' : CoreProg F _) Q) := by
  rw [k0_part6_eq_skeleton]
  refine andThen (framed (signal m ρ K c 29 (k0_dev30_eq c))) <| andThen (framed (signal m ρ K c 30 (k0_dev31_eq c))) <| ?_
  have hbar : ∀ {α : Type} {Q : α → sProp 𝕄} {k : PUnit → CoreProg F α}, iprop(records m ρ K ∗ (sigSt c 31 ∗ atBarrier m ρ c))
      ⊢ iprop(((fillSt m ρ c (upTo 0) ∗ pastBarrier m ρ c) -∗ WP c (k ⟨⟩) Q) -∗ WP c (semWaitWord barS 31#32 >>= k) Q) := by
    intro α Q k
    unfold atBarrier pastBarrier
    iintro ⟨#HR, Hs, Hlev, Hc, Hat, Hxw, Hf⟩ Hk
    iapply (step_barrier m ρ K c) $$ [Hs Hlev Hc Hat]
    · isplitr; · iexact HR
      isplitl [Hlev]; · iexact Hlev
      isplitl [Hs]; · iexact Hs
      isplitl [Hc] <;> iassumption
    iintro ⟨HO, Hat, Hfree⟩
    iapply Hk
    isplitl [Hf]; · iexact Hf
    isplitl [HO]; · iexact HO
    isplitl [Hat]; · iexact Hat
    isplitl [Hfree] <;> iassumption
  refine andThen hbar ?_
  have hload : ∀ {hx hw} {α : Type} {Q : α → sProp 𝕄} {k : Vec F S128x4096 .f32 → Vec F S4096x2048 .f32 → CoreProg F α},
      iprop(records m ρ K ∗ (fillSt m ρ c (upTo 0) ∗ pastBarrier m ρ c))
        ⊢ iprop(((fillSt m ρ c (upTo 0) ∗ pastBarrier m ρ c) -∗ WP c (k (xstg m ρ c) (wstg m ρ c)) Q)
          -∗ WP c (Prog.lift (.load xM (Rect.unit (s := S128x4096) ![0, 0] S128x4096.size inb_S128x4096_S128x4096_0_0).toLoadRect hx) >>= fun v =>
              Prog.lift (.load wM (Rect.unit (s := S4096x2048) ![0, 0] S4096x2048.size inb_S4096x2048_S4096x2048_0_0).toLoadRect hw) >>= fun v' => k v v') Q) := by
    intro hx hw α Q k
    unfold pastBarrier
    iintro ⟨#HR, Hf, HO, Hat, Hfree, Hxw⟩ Hk
    iapply (load_factors m ρ c _ _ (R := records m ρ K)) $$ [Hxw]
    · isplitr; · iexact HR
      iexact Hxw
    iintro Hxw
    iapply Hk
    isplitl [Hf]; · iexact Hf
    isplitl [HO]; · iexact HO
    isplitl [Hat]; · iexact Hat
    isplitl [Hfree] <;> iassumption
  exact andThen hload <| andThen (framed (fill m ρ K c 0 (by decide))) <| andThen (framed (fill m ρ K c 1 (by decide))) <|
    andThen (framed (fill m ρ K c 2 (by decide))) <| finish_at _

/-- What the transfers need besides the filled buffer. -/
def beforeXfer : sProp 𝕄 :=
  iprop(freeSlot c c ∗ (∃ W, owes (c : Thread nD τ) (owedX c 0) W) ∗ (bigSep (Finset.Ico 0 31) fun r => freeSlot (peer c r) c)
    ∗ bigSep (Finset.Ico 0 31) fun r => iprop(dutyTok ER (sendCell c (peer c r)) 0 0 ∗ dutyTok ER (recvCell (peer c r) c) 0 0))

theorem xfer_begin : iprop((locS c ↦[Finset.univ]{fullShare} sendC m ρ c) ∗ (∃ W, owes (c : Thread nD τ) (owedX c 0) W) ∗ (bigSep (Finset.Ico 0 31) fun r => freeSlot (peer c r) c)
      ∗ bigSep (Finset.Ico 0 31) fun r => iprop(dutyTok ER (sendCell c (peer c r)) 0 0 ∗ dutyTok ER (recvCell (peer c r) c) 0 0))
    ⊢ (iprop(xferSt m ρ c 0 ∗ sendPay m ρ c c) : sProp 𝕄) := by
  rw [send_split]
  unfold xferSt
  iintro ⟨⟨Ho, Hs⟩, HO, Hf, Ht⟩
  isplitr [Ho]
  · isplitl [HO]; · iexact HO
    isplitl
    · have e : (bigSep (Finset.Ico 0 31) (toSend m ρ c) : sProp 𝕄) = iprop((bigSep (Finset.Ico 0 31) fun r => sendPay m ρ c (peer c r)) ∗ (bigSep (Finset.Ico 0 31) fun r => freeSlot (peer c r) c)
          ∗ bigSep (Finset.Ico 0 31) fun r => iprop(dutyTok ER (sendCell c (peer c r)) 0 0 ∗ dutyTok ER (recvCell (peer c r) c) 0 0)) := by
        rw [← bigSep_sep', ← bigSep_sep']; rfl
      rw [e]
      isplitl [Hs]; · iexact Hs
      isplitl [Hf] <;> iassumption
    · iapply (ico_none (inFlight c) 0); iempintro
  · iexact Ho

/-- The device's own slot, and transfers 1 and 2. -/
theorem part11 (v2 : BitVec 32) {Q : _ → sProp 𝕄} :
    iprop(records m ρ K ∗ ((locS c ↦[Finset.univ]{fullShare} sendC m ρ c) ∗ beforeXfer c))
      ⊢ iprop((∀ x, (xferSt m ρ c 2 ∗ (sendPay m ρ c c ∗ recvPay m ρ c c)) -∗ Q x)
      -∗ WP c (k0_part11 xM (Memref.isWhole_whole _) wM (Memref.isWhole_whole _) oM (Memref.isWhole_whole _)
          sendM (Memref.isWhole_whole _) recvM (Memref.isWhole_whole _) cc0_scratch2 cc0_scratch3 c v2 : CoreProg F _) Q) := by
  rw [k0_part11_eq_skeleton]
  have h1 : iprop((locS c ↦[Finset.univ]{fullShare} sendC m ρ c) ∗ beforeXfer c) ⊢ (iprop(((locS c ↦[Finset.univ]{fullShare} sendC m ρ c) ∗ freeSlot c c)
      ∗ (∃ W, owes (c : Thread nD τ) (owedX c 0) W) ∗ (bigSep (Finset.Ico 0 31) fun r => freeSlot (peer c r) c)
    ∗ bigSep (Finset.Ico 0 31) fun r => iprop(dutyTok ER (sendCell c (peer c r)) 0 0 ∗ dutyTok ER (recvCell (peer c r) c) 0 0)) : sProp 𝕄) := by
    unfold beforeXfer
    iintro ⟨H1, H2, H3⟩
    isplitl [H1 H2]; · isplitl [H1] <;> iassumption
    iexact H3
  have h2 : iprop(((locS c ↦[Finset.univ]{fullShare} sendC m ρ c) ∗ recvPay m ρ c c)
      ∗ (∃ W, owes (c : Thread nD τ) (owedX c 0) W) ∗ (bigSep (Finset.Ico 0 31) fun r => freeSlot (peer c r) c)
    ∗ bigSep (Finset.Ico 0 31) fun r => iprop(dutyTok ER (sendCell c (peer c r)) 0 0 ∗ dutyTok ER (recvCell (peer c r) c) 0 0))
      ⊢ (iprop(xferSt m ρ c 0 ∗ (sendPay m ρ c c ∗ recvPay m ρ c c)) : sProp 𝕄) := by
    iintro ⟨⟨H1, H2⟩, H3⟩
    ihave H := (xfer_begin m ρ c) $$ [H1 H3]
    · isplitl [H1] <;> iassumption
    icases H with ⟨Ha, Hb⟩
    isplitl [Ha]; · iexact Ha
    isplitl [Hb] <;> iassumption
  exact regroup h1 <| andThen (framed (alone (step_own m ρ c (k0_off1_eq c)))) <| regroup h2 <|
    andThen (framed (send m ρ K c 0 (k0_dev32_eq c))) <| andThen (framed (send m ρ K c 1 (k0_dev33_eq c))) <| finish _

theorem xfer_end : iprop(xferSt m ρ c 31 ∗ bigSep (Finset.Ico 0 31) (toArrive c))
    ⊢ (iprop(arriveSt m ρ c 0 ∗ bigSep (Finset.Ico 0 31) (inFlight c)) : sProp 𝕄) := by
  unfold xferSt arriveSt
  rw [owedX_last]
  iintro ⟨⟨HO, -, Hf⟩, Ha⟩
  isplitr [Hf]
  · isplitl [HO]; · iexact HO
    isplitl [Ha]; · iexact Ha
    iapply (ico_none (arrived m ρ c) 0); iempintro
  · iexact Hf

/-- The last transfer, and arrivals 1 and 2. -/
theorem part22 (v2 : BitVec 32) {Q : _ → sProp 𝕄} :
    iprop(records m ρ K ∗ (xferSt m ρ c 30 ∗ bigSep (Finset.Ico 0 31) (toArrive c)))
      ⊢ iprop((∀ x, (arriveSt m ρ c 2 ∗ bigSep (Finset.Ico 0 31) (inFlight c)) -∗ Q x)
      -∗ WP c (k0_part22 xM (Memref.isWhole_whole _) wM (Memref.isWhole_whole _) oM (Memref.isWhole_whole _)
          sendM (Memref.isWhole_whole _) recvM (Memref.isWhole_whole _) cc0_scratch2 cc0_scratch3 c v2 : CoreProg F _) Q) := by
  rw [k0_part22_eq_skeleton]
  exact andThen (framed (send m ρ K c 30 (k0_dev62_eq c))) <| regroup (xfer_end m ρ c) <| andThen (framed (arrive m ρ K c 0)) <|
    andThen (framed (arrive m ρ K c 1)) <| finish _

/-- The rows of the magnitudes in a receive buffer, and the rows of the products. -/
def magsOf (f : (cc0_scratch1 : Ref sig .tc).ty.Contents (Elt F)) : Vec F S32x1x64 .f32 :=
  (recvM : Memref sig .tc .vmem S32x136x64 .f32).view.readAt (Elt F) (Rect.unit (s := S32x136x64) ![0, 128, 0] S32x1x64.size inb_S32x136x64_S32x1x64_0_128_0).toLoadRect f
def rowsOf (f : (cc0_scratch1 : Ref sig .tc).ty.Contents (Elt F)) : Vec F S32x128x64 .f32 :=
  (recvM : Memref sig .tc .vmem S32x136x64 .f32).view.readAt (Elt F) (Rect.unit (s := S32x136x64) ![0, 0, 0] S32x128x64.size inb_S32x136x64_S32x128x64_0_0_0).toLoadRect f

/-- What device `c` computes from its receive buffer. -/
def outOf : (cc0_stg2_0 : Ref sig .tc).ty.Contents (Elt F) := k0_pay40 (k0_pay39 (magsOf (gath m ρ c))) (rowsOf (gath m ρ c))

/-- All has arrived: the receive buffer is whole again. -/
def gathered : sProp 𝕄 :=
  iprop((∃ W, owes (c : Thread nD τ) 0 W) ∗ (bigSep (Finset.Ico 0 31) fun r => atPos ER (recvCell c (src c r)) 1 ∅ 0) ∗ (locR c ↦[Finset.univ]{fullShare} gath m ρ c))

theorem arrive_end : iprop(arriveSt m ρ c 31 ∗ recvPay m ρ c c) ⊢ gathered m ρ c := by
  unfold arriveSt gathered
  rw [recv_split]
  have e : (bigSep (Finset.Ico 0 31) (arrived m ρ c) : sProp 𝕄)
      = iprop((bigSep (Finset.Ico 0 31) fun r => recvPay m ρ c (src c r)) ∗ bigSep (Finset.Ico 0 31) fun r => atPos ER (recvCell c (src c r)) 1 ∅ 0) := by
    rw [← bigSep_sep']; rfl
  rw [e]
  iintro ⟨⟨HO, -, Hp, Ha⟩, Hown⟩
  isplitl [HO]; · iexact HO
  isplitl [Ha]; · iexact Ha
  isplitl [Hown] <;> iassumption

/-- The last arrivals, and the magnitudes read. -/
theorem part32 (v2 w w' : BitVec 32) {Q : _ → sProp 𝕄} :
    iprop(records m ρ K ∗ (arriveSt m ρ c 28 ∗ recvPay m ρ c c)) ⊢ iprop((gathered m ρ c -∗ Q (k0_pay39 (magsOf (gath m ρ c))))
      -∗ WP c (k0_part32 xM (Memref.isWhole_whole _) wM (Memref.isWhole_whole _) oM (Memref.isWhole_whole _)
          sendM (Memref.isWhole_whole _) recvM (Memref.isWhole_whole _) cc0_scratch2 cc0_scratch3 c v2 w w' : CoreProg F _) Q) := by
  rw [k0_part32_eq_skeleton]
  have hload : ∀ {hx} {α : Type} {Q : α → sProp 𝕄} {k : Vec F S32x1x64 .f32 → CoreProg F α},
      iprop(records m ρ K ∗ gathered m ρ c) ⊢ iprop((gathered m ρ c -∗ WP c (k (magsOf (gath m ρ c))) Q)
        -∗ WP c (Prog.lift (.load recvM (Rect.unit (s := S32x136x64) ![0, 128, 0] S32x1x64.size inb_S32x136x64_S32x1x64_0_128_0).toLoadRect hx) >>= k) Q) := by
    intro hx α Q k
    simp only [Prog.lift, Prog.bind_op, Prog.bind_ret]
    unfold gathered
    iintro ⟨-, HO, Ha, Hr⟩ Hk
    iapply (wp_load 𝒱₀ (c : Thread nD τ) none Set.univ (m := recvM) (Finset.subset_univ _)) $$ Hr; iintro Hr
    iapply Hk
    isplitl [HO]; · iexact HO
    isplitl [Ha] <;> iassumption
  exact andThen (framed (arrive m ρ K c 28)) <| andThen (framed (arrive m ρ K c 29)) <| andThen (framed (arrive m ρ K c 30)) <|
    regroup (arrive_end m ρ c) <| andThen hload <| finish_at _

/-- What is left when the result is written: the departures are still open. -/
def written : sProp 𝕄 :=
  iprop((bigSep (Finset.Ico 0 31) fun r => atPos ER (recvCell c (src c r)) 1 ∅ 0) ∗ (locR c ↦[Finset.univ]{fullShare} gath m ρ c)
    ∗ ((c : Thread nD τ).loc cc0_stg2_0 ↦[Finset.univ]{fullShare} outOf m ρ c))

/-- What the result and the departures need besides the arrivals. -/
def beforeOut : sProp 𝕄 :=
  iprop((bigSep (Finset.Ico 0 31) (inFlight c)) ∗ (bigSep (Finset.Ico 0 31) fun r => atPos ER (sendCell c (peer c r)) 0 ∅ 0)
    ∗ ∃ f : Buf (Elt F) ((c : Thread nD τ).loc cc0_stg2_0), (c : Thread nD τ).loc cc0_stg2_0 ↦[Finset.univ]{fullShare} f)

/-- The result, and departures 1 and 2. -/
theorem part33 {Q : _ → sProp 𝕄} :
    iprop(records m ρ K ∗ (gathered m ρ c ∗ beforeOut c)) ⊢ iprop((∀ x, (leaveSt m ρ c 2 ∗ written m ρ c) -∗ Q x)
      -∗ WP c (k0_part33 xM (Memref.isWhole_whole _) wM (Memref.isWhole_whole _) oM (Memref.isWhole_whole _)
          sendM (Memref.isWhole_whole _) recvM (Memref.isWhole_whole _) cc0_scratch2 cc0_scratch3 c (k0_pay39 (magsOf (gath m ρ c))) : CoreProg F _) Q) := by
  rw [k0_part33_eq_skeleton]
  have hz : (![0, 0] : Fin 2 → ℕ) = fun _ => 0 := funext fun a => by fin_cases a <;> rfl
  have hout : ∀ {hx hy hs} {hm} {α : Type} {Q : α → sProp 𝕄} {k : PUnit → CoreProg F α},
      iprop(records m ρ K ∗ (gathered m ρ c ∗ beforeOut c)) ⊢ iprop(((leaveSt m ρ c 0 ∗ written m ρ c) -∗ WP c (k ⟨⟩) Q)
        -∗ WP c (Prog.lift (.load recvM (Rect.unit (s := S32x136x64) ![0, 0, 0] S32x128x64.size inb_S32x136x64_S32x128x64_0_0_0).toLoadRect hx) >>= fun v =>
            Prog.lift (.load oM (Rect.unit (s := S4096x64) ![0, 0] S4096x64.size inb_S4096x64_S4096x64_0_0).toLoadRect hy) >>= fun _ =>
            Prog.lift (.store oM (Rect.unit (s := S4096x64) ![0, 0] S4096x64.size inb_S4096x64_S4096x64_0_0) (k0_pay40 (k0_pay39 (magsOf (gath m ρ c))) v) Finset.univ hs hm) >>= k) Q) := by
    intro hx hy hs hm α Q k
    simp only [Prog.lift, Prog.bind_op, Prog.bind_ret]
    unfold gathered beforeOut leaveSt written
    iintro ⟨-, ⟨HO, Ha, Hr⟩, Hfl, Hat, ⟨%f, Hout⟩⟩ Hk
    iapply (wp_load 𝒱₀ (c : Thread nD τ) none Set.univ (m := recvM) (Finset.subset_univ _)) $$ Hr; iintro Hr
    iapply (wp_load 𝒱₀ (c : Thread nD τ) none Set.univ (m := oM) (Finset.subset_univ _)) $$ Hout; iintro Hout
    iapply (wp_store 𝒱₀ (c : Thread nD τ) none Set.univ (m := oM) (r := Rect.unit (s := S4096x64) ![0, 0] S4096x64.size inb_S4096x64_S4096x64_0_0) (Mk := Finset.univ)
      (Finset.subset_univ _)) $$ Hout; iintro Hout
    have ew : ∀ w : Vec F S4096x64 .f32, ((oM : Memref sig .tc .vmem S4096x64 .f32).access (Rect.unit (s := S4096x64) ![0, 0] S4096x64.size inb_S4096x64_S4096x64_0_0) : View sig .tc _ _ _).write
        (Elt F) f w Finset.univ = w := fun w => Memref.write_access_unit_zero_univ (Elt F) cc0_stg2_0 hz _ f w
    rw [ew]
    iapply Hk
    isplitl [HO Hfl Hat]
    · isplitl [HO]; · iexact HO
      isplitl [Hfl Hat]
      · have e : (bigSep (Finset.Ico 0 31) (toLeave c) : sProp 𝕄)
            = iprop((bigSep (Finset.Ico 0 31) (inFlight c)) ∗ bigSep (Finset.Ico 0 31) fun r => atPos ER (sendCell c (peer c r)) 0 ∅ 0) := by
          rw [← bigSep_sep']; rfl
        rw [e]; isplitl [Hfl] <;> iassumption
      · iapply (ico_none (left m ρ c) 0); iempintro
    isplitl [Ha]; · iexact Ha
    isplitl [Hr]; · iexact Hr
    iexact Hout
  exact andThen hout <| andThen (framed (leave m ρ K c 0)) <| andThen (framed (leave m ρ K c 1)) <| finish _

end Parts

end Cert.KernelIdeal.Exchange

end
-- ==== Proof.Ideal.Body.lean ====
/-
# The kernel on one device

The parts one after the other: from what a device holds when the kernel begins to what it holds when it ends, its
semaphores closed and at zero.
-/
module

public import proofs.«01_k».proof.Proof.Ideal.Whole

@[expose] public section

set_option maxRecDepth 16384

noncomputable section

namespace Cert.KernelIdeal.Exchange

open Cert.KernelIdeal Cert.KernelIdeal.Gen
open Idealize.ShloMosaic Idealize.ShloMosaic.TcCoe Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's semaphores -/

omit [FloatOps F] in
/-- The sixty-five semaphores: the barrier's, the send slots', the receive slots'. -/
theorem by_kind (Φ : Fin 65 → sProp 𝕄) :
    bigSep Finset.univ Φ = iprop(Φ barK ∗ (bigSep Finset.univ fun t : Dev nD => Φ (sendK t)) ∗ bigSep Finset.univ fun s : Dev nD => Φ (recvK s)) := by
  have hs : Set.InjOn sendK (Finset.univ : Finset (Dev nD)) := fun a _ b _ h => Fin.ext (by
    have := congrArg Fin.val h; change 1 + a.val = 1 + b.val at this; omega)
  have hr : Set.InjOn recvK (Finset.univ : Finset (Dev nD)) := fun a _ b _ h => Fin.ext (by
    have := congrArg Fin.val h; change 33 + a.val = 33 + b.val at this; omega)
  have hd : Disjoint (Finset.univ.image sendK) (Finset.univ.image recvK) := by
    rw [Finset.disjoint_left]; intro k h h'
    obtain ⟨t, -, rfl⟩ := Finset.mem_image.mp h
    obtain ⟨s, -, e⟩ := Finset.mem_image.mp h'
    have e' := congrArg Fin.val e; change 33 + s.val = 1 + t.val at e'
    have : t.val < 32 := t.isLt
    omega
  have hb : barK ∉ Finset.univ.image sendK ∪ Finset.univ.image recvK := by
    rw [Finset.mem_union]; rintro (h | h)
    · obtain ⟨t, -, e⟩ := Finset.mem_image.mp h
      have e' := congrArg Fin.val e; change 1 + t.val = 0 at e'; omega
    · obtain ⟨t, -, e⟩ := Finset.mem_image.mp h
      have e' := congrArg Fin.val e; change 33 + t.val = 0 at e'; omega
  have hu : (Finset.univ : Finset (Fin 65)) = insert barK (Finset.univ.image sendK ∪ Finset.univ.image recvK) := by
    ext k; refine ⟨fun _ => ?_, fun _ => Finset.mem_univ _⟩
    rw [Finset.mem_insert, Finset.mem_union]
    rcases fin65_cases k with rfl | ⟨t, rfl⟩ | ⟨s, rfl⟩
    · exact .inl rfl
    · exact .inr (.inl (Finset.mem_image_of_mem _ (Finset.mem_univ _)))
    · exact .inr (.inr (Finset.mem_image_of_mem _ (Finset.mem_univ _)))
  rw [hu, bigSep_insert hb, bigSep_union hd, bigSep_image_of_injOn hs, bigSep_image_of_injOn hr]
  rfl

omit [FloatOps F] in
theorem cells_by_kind (c : Dev nD) (Φ : GSem nD τ sig → sProp 𝕄) :
    (bigSep Finset.univ fun k : Fin 65 => Φ (kcell (c, k)))
      = iprop(Φ (barCell c) ∗ (bigSep Finset.univ fun t : Dev nD => Φ (sendCell c t)) ∗ bigSep Finset.univ fun s : Dev nD => Φ (recvCell c s)) := by
  rw [by_kind]
  have e1 : kcell (c, barK) = barCell c := by rw [kcell, csem_bar]
  have e2 : ∀ t : Dev nD, kcell (c, sendK t) = sendCell c t := fun t => by rw [kcell, csem_send]
  have e3 : ∀ s : Dev nD, kcell (c, recvK s) = recvCell c s := fun s => by rw [kcell, csem_recv]
  simp only [e1, e2, e3]

/-- The tokens of the duties device `c` pays. -/
def payToks (c : Dev nD) : sProp 𝕄 :=
  iprop((bigSep (Finset.Ico 0 31) fun r => dutyTok ER (barCell (peer c r)) 0 c)
    ∗ bigSep (Finset.Ico 0 31) fun r => iprop(dutyTok ER (sendCell c (peer c r)) 0 0 ∗ dutyTok ER (recvCell (peer c r) c) 0 0))

/-- What is device `c`'s alone: its positions at its semaphores, and those tokens. -/
def linear (c : Dev nD) : sProp 𝕄 :=
  iprop((bigSep Finset.univ fun k : Fin 65 => atPos ER (kcell (c, k)) 0 ∅ 0) ∗ payToks c)

/-- The claims the launch gives: on the barrier's thirty-one units and on every arrival. -/
def claims (c : Dev nD) : sProp 𝕄 :=
  iprop(cred (tallyAt (barCell c) () 31) ∗ bigSep (Finset.Ico 0 31) fun r => cred (tallyAt (recvCell c (src c r)) () N))

/-- The two buffers, whatever they hold. -/
def buffers (c : Dev nD) : sProp 𝕄 :=
  iprop((∃ f : Buf (Elt F) (locS c), locS c ↦[Finset.univ]{fullShare} f) ∗ ∃ f : Buf (Elt F) (locR c), locR c ↦[Finset.univ]{fullShare} f)

/-! ## Grouping -/

section Body

variable (K : Dev nD × Fin 65 → ℕ) (c : Dev nD)

omit [FloatOps F] in
theorem shift (A B C : sProp 𝕄) : iprop((A ∗ B) ∗ C) ⊢ iprop(A ∗ (B ∗ C)) := by
  iintro ⟨⟨HA, HB⟩, HC⟩
  isplitl [HA]; · iexact HA
  isplitl [HB] <;> iassumption
omit [FloatOps F] in
theorem unshift (A B C : sProp 𝕄) : iprop(A ∗ (B ∗ C)) ⊢ iprop((A ∗ B) ∗ C) := by
  iintro ⟨HA, HB, HC⟩
  isplitr [HC]
  · isplitl [HA] <;> iassumption
  · iexact HC

omit [FloatOps F] in
theorem add_emp (A : sProp 𝕄) : A ⊢ iprop(A ∗ emp) := by
  iintro H
  isplitl [H]; · iexact H
  iempintro
omit [FloatOps F] in
theorem drop_emp (A : sProp 𝕄) : iprop(A ∗ emp) ⊢ A := by
  iintro ⟨H, -⟩; iexact H

/-- What waits until the transfers are done. -/
def later (A : sProp 𝕄) : sProp 𝕄 :=
  iprop(A ∗ bigSep (Finset.Ico 0 31) (toArrive c) ∗ (bigSep (Finset.Ico 0 31) fun r => atPos ER (sendCell c (peer c r)) 0 ∅ 0)
    ∗ ∃ f : Buf (Elt F) ((c : Thread nD τ).loc cc0_stg2_0), (c : Thread nD τ).loc cc0_stg2_0 ↦[Finset.univ]{fullShare} f)
/-- What is needed to the end: the barrier's position and the factors. -/
def kept : sProp 𝕄 := iprop(atPos ER (barCell c) 1 ∅ 0 ∗ factors m ρ c)
/-- What the transfers need from the beginning. -/
def forXfer : sProp 𝕄 :=
  iprop(freeSlot c c ∗ bigSep (Finset.Ico 0 31) fun r => iprop(dutyTok ER (sendCell c (peer c r)) 0 0 ∗ dutyTok ER (recvCell (peer c r) c) 0 0))

theorem to_xfer : iprop((locS c ↦[Finset.univ]{fullShare} sendC m ρ c) ∗ (pastBarrier m ρ c ∗ later c (forXfer c)))
    ⊢ (iprop(((locS c ↦[Finset.univ]{fullShare} sendC m ρ c) ∗ beforeXfer c) ∗ later c (kept m ρ c)) : sProp 𝕄) := by
  unfold pastBarrier later forXfer beforeXfer kept
  iintro ⟨Hs, ⟨HO, Hat, Hfree, Hxw⟩, ⟨Hown, Ht⟩, Harr, Hlv, Hout⟩
  isplitl [Hs HO Hfree Hown Ht]
  · isplitl [Hs]; · iexact Hs
    isplitl [Hown]; · iexact Hown
    isplitl [HO]; · iexact HO
    isplitl [Hfree] <;> iassumption
  isplitl [Hat Hxw]
  · isplitl [Hat] <;> iassumption
  isplitl [Harr]; · iexact Harr
  isplitl [Hlv] <;> iassumption

/-- What waits until all has arrived. -/
def waiting : sProp 𝕄 :=
  iprop(kept m ρ c ∗ (bigSep (Finset.Ico 0 31) fun r => atPos ER (sendCell c (peer c r)) 0 ∅ 0)
    ∗ ∃ f : Buf (Elt F) ((c : Thread nD τ).loc cc0_stg2_0), (c : Thread nD τ).loc cc0_stg2_0 ↦[Finset.univ]{fullShare} f)

theorem to_arrive : iprop(xferSt m ρ c 30 ∗ ((sendPay m ρ c c ∗ recvPay m ρ c c) ∗ later c (kept m ρ c)))
    ⊢ (iprop((xferSt m ρ c 30 ∗ bigSep (Finset.Ico 0 31) (toArrive c)) ∗ ((sendPay m ρ c c ∗ recvPay m ρ c c) ∗ waiting m ρ c)) : sProp 𝕄) := by
  unfold later waiting
  iintro ⟨Hx, Hown, Hk, Harr, Hlv, Hout⟩
  isplitl [Hx Harr]
  · isplitl [Hx] <;> iassumption
  isplitl [Hown]; · iexact Hown
  isplitl [Hk]; · iexact Hk
  isplitl [Hlv] <;> iassumption

theorem to_gather : iprop(arriveSt m ρ c 28 ∗ (bigSep (Finset.Ico 0 31) (inFlight c) ∗ ((sendPay m ρ c c ∗ recvPay m ρ c c) ∗ waiting m ρ c)))
    ⊢ (iprop((arriveSt m ρ c 28 ∗ recvPay m ρ c c) ∗ (beforeOut c ∗ (sendPay m ρ c c ∗ kept m ρ c))) : sProp 𝕄) := by
  unfold waiting beforeOut
  iintro ⟨Ha, Hf, ⟨Hs, Hr⟩, Hk, Hlv, Hout⟩
  isplitl [Ha Hr]
  · isplitl [Ha] <;> iassumption
  isplitl [Hf Hlv Hout]
  · isplitl [Hf]; · iexact Hf
    isplitl [Hlv] <;> iassumption
  isplitl [Hs] <;> iassumption

/-! ## The run of the body -/

/-- What is left besides the departures at the end. -/
def rest : sProp 𝕄 := iprop(written m ρ c ∗ (sendPay m ρ c c ∗ kept m ρ c))

/-- Part 1 and the rest. -/
theorem part1_then {G X : sProp 𝕄} {α : Type} {Q : α → sProp 𝕄} {k : _ → CoreProg F α}
    (h' : ∀ w w' w'', iprop(records m ρ K ∗ (sigSt c 5 ∗ G)) ⊢ iprop(X -∗ WP c (k ⟨c, w, SemArray.scalar (sig.barrier 0 rfl), w', w''⟩) Q)) :
    iprop(records m ρ K ∗ (sigSt c 0 ∗ G)) ⊢ iprop(X -∗ WP c ((k0_part1 xM (Memref.isWhole_whole _) wM (Memref.isWhole_whole _) oM (Memref.isWhole_whole _)
          sendM (Memref.isWhole_whole _) recvM (Memref.isWhole_whole _) cc0_scratch2 cc0_scratch3 : CoreProg F _) >>= k) Q) := by
  have h := @part1 F _ m ρ K c
  unfold WP at h h' ⊢
  rw [wp_bind]
  iintro ⟨#HR, HA, HG⟩ HX
  iapply h $$ [HA]
  · isplitr; · iexact HR
    iexact HA
  iintro %w %w' %w'' HB
  iapply (h' w w' w'') $$ [HB HG] HX
  isplitr; · iexact HR
  isplitl [HB] <;> iassumption

/-- All but the last two departures. -/
theorem part39 {Q : _ → sProp 𝕄} :
    iprop(records m ρ K ∗ (sigSt c 0 ∗ (atBarrier m ρ c ∗ later c (forXfer c)))) ⊢ iprop(((leaveSt m ρ c 29 ∗ rest m ρ c) -∗ Q c)
      -∗ WP c (k0_part39 xM (Memref.isWhole_whole _) wM (Memref.isWhole_whole _) oM (Memref.isWhole_whole _)
          sendM (Memref.isWhole_whole _) recvM (Memref.isWhole_whole _) cc0_scratch2 cc0_scratch3 : CoreProg F _) Q) := by
  rw [k0_part39_eq_skeleton]
  refine part1_then m ρ K c fun w w' w'' => ?_
  refine call (part2 m ρ K c _ _ _) fun ⟨_, _⟩ => call (part3 m ρ K c _ _ _) fun ⟨_, _⟩ => call (part4 m ρ K c _ _ _) fun ⟨_, _⟩ =>
    call (part5 m ρ K c _ _ _) fun ⟨_, _⟩ => regroup (unshift _ _ _) ?_
  refine callAt (part6 m ρ K c _ _ _) <| regroup (shift _ _ _) <| callAt (part7 m ρ K c) <| callAt (part8 m ρ K c) <| callAt (part9 m ρ K c) <|
    callAt (part10 m ρ K c) <| regroup (to_xfer m ρ c) ?_
  refine call (part11 m ρ K c _) fun _ => regroup (shift _ _ _) <| call (part12 m ρ K c _ _) fun ⟨_, _⟩ => call (part13 m ρ K c _ _ _) fun _ =>
    call (part14 m ρ K c _) fun _ => call (part15 m ρ K c _) fun _ => call (part16 m ρ K c _) fun _ => call (part17 m ρ K c _) fun _ =>
    call (part18 m ρ K c _) fun _ => call (part19 m ρ K c _ _) fun ⟨_, _⟩ => call (part20 m ρ K c _ _ _) fun _ => call (part21 m ρ K c _) fun _ =>
    regroup (to_arrive m ρ c) ?_
  refine call (part22 m ρ K c _) fun _ => regroup (shift _ _ _) <| call (part23 m ρ K c _) fun _ => call (part24 m ρ K c _) fun ⟨_, _⟩ =>
    call (part25 m ρ K c _ _ _) fun _ => call (part26 m ρ K c _ _) fun ⟨_, _⟩ => call (part27 m ρ K c _ _ _) fun _ => call (part28 m ρ K c _) fun _ =>
    call (part29 m ρ K c _) fun _ => call (part30 m ρ K c _) fun _ => call (part31 m ρ K c _) fun ⟨_, _⟩ => regroup (to_gather m ρ c) ?_
  refine callAt (part32 m ρ K c _ _ _) <| regroup (unshift _ _ _) <| call (part33 m ρ K c) fun _ => regroup (shift _ _ _) <|
    call (part34 m ρ K c) fun _ => call (part35 m ρ K c) fun _ => call (part36 m ρ K c) fun _ => call (part37 m ρ K c) fun _ => call (part38 m ρ K c) fun _ => ?_
  exact andThen (framed (leave m ρ K c 27)) <| andThen (framed (leave m ρ K c 28)) <| finish_at _

/-- The whole body. -/
theorem body_run {Q : PUnit → sProp 𝕄} :
    iprop(records m ρ K ∗ (sigSt c 0 ∗ (atBarrier m ρ c ∗ later c (forXfer c)))) ⊢ iprop(((leaveSt m ρ c 31 ∗ rest m ρ c) -∗ Q ⟨⟩)
      -∗ WP c (cc0_body xM (Memref.isWhole_whole _) wM (Memref.isWhole_whole _) oM (Memref.isWhole_whole _)
          sendM (Memref.isWhole_whole _) recvM (Memref.isWhole_whole _) cc0_scratch2 cc0_scratch3 : CoreProg F _) Q) := by
  rw [cc0_body_eq_skeleton]
  refine regroup (add_emp _) <| callAt (part39 m ρ K c) <| regroup (drop_emp _) ?_
  exact andThen (framed (leave m ρ K c 29)) <| andThen (framed (leave m ρ K c 30)) <| finish_at _

end Body

end Cert.KernelIdeal.Exchange

end
-- ==== Proof.Ideal.Obligation.lean ====
/-
# The body's obligation

What a device begins with is what the parts start from, and what they leave closes the semaphores: the region's body is
sound for the pipeline's proof data.
-/
module

public import proofs.«01_k».proof.Proof.Ideal.Body
public import proofs.«01_k».proof.Proof.Gen.KernelIdeal.Points

@[expose] public section

set_option maxRecDepth 16384

noncomputable section

namespace Cert.KernelIdeal.Exchange

open Cert.KernelIdeal Cert.KernelIdeal.Gen
open Idealize.ShloMosaic Idealize.ShloMosaic.TcCoe Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Closing -/

/-- A semaphore no round from `r` on pays is closed at zero. -/
theorem close_at (g : GSem nD τ sig) (r : ℕ) (h : ∀ r', r ≤ r' → (Rd (F := F) m ρ).duties g r' = ∅) :
    iprop(record m ρ g ∗ atPos ER g r ∅ 0) ⊢ (iprop(|={Set.univ}=> semVal g 0) : sProp 𝕄) := by
  unfold record
  iintro ⟨⟨%κ, HI, -⟩, Hat⟩
  iapply (Rounds.cell_close ER (Rd m ρ) (Set.mem_univ κ) (fun hu => hu) h)
  isplitl [HI] <;> iassumption

/-- What all of a family need together each of them may use. -/
theorem each_with {I : Type} [DecidableEq I] (S : Finset I) {R : sProp 𝕄} [Persistent R] {A B : I → sProp 𝕄} (h : ∀ i, iprop(R ∗ A i) ⊢ B i) :
    iprop(R ∗ bigSep S A) ⊢ bigSep S B := by
  have h1 : bigSep S (fun i => iprop(R ∗ A i)) ⊢ bigSep S B := bigSep_mono fun i _ => h i
  iintro ⟨#HR, HA⟩
  iapply h1
  iapply (Entails.of_eq (bigSep_sep' S (fun _ => R) A).symm)
  isplitr
  · iapply (bigSep_of_persistent S R); iexact HR
  · iexact HA

section Close

variable (K : Dev nD × Fin 65 → ℕ) (c : Dev nD)

/-- A family of a device's semaphores, closed. -/
theorem close_all (S : Finset ℕ) (g : ℕ → GSem nD τ sig) (r : ℕ) (hrec : ∀ i, records m ρ K ⊢ record (F := F) m ρ (g i))
    (h : ∀ i r', r ≤ r' → (Rd (F := F) m ρ).duties (g i) r' = ∅) :
    iprop(records m ρ K ∗ bigSep S fun i => atPos ER (g i) r ∅ 0) ⊢ (iprop(|={Set.univ}=> bigSep S fun i => semVal (g i) 0) : sProp 𝕄) := by
  refine (each_with S fun i => ?_).trans (bigSep_fupd S _)
  show iprop(records m ρ K ∗ atPos ER (g i) r ∅ 0) ⊢ iprop(|={Set.univ}=> semVal (g i) 0)
  iintro ⟨HR, Hat⟩
  iapply (close_at m ρ (g i) r (h i))
  isplitl [HR]
  · iapply (hrec i); iexact HR
  · iexact Hat

/-- The positions of the two slots a device does not use. -/
def idle : sProp 𝕄 := iprop(atPos ER (sendCell c c) 0 ∅ 0 ∗ atPos ER (recvCell c c) 0 ∅ 0)

/-- Where a device stands at the end. -/
def ended : sProp 𝕄 :=
  iprop(atPos ER (barCell c) 1 ∅ 0 ∗ (bigSep (Finset.Ico 0 31) fun r => atPos ER (sendCell c (peer c r)) 1 ∅ 0)
    ∗ (bigSep (Finset.Ico 0 31) fun r => atPos ER (recvCell c (src c r)) 1 ∅ 0) ∗ idle c)

/-- All sixty-five are closed at zero. -/
theorem close_device : iprop(records m ρ K ∗ ended c) ⊢ (iprop(|={Set.univ}=> bigSep Finset.univ fun k : Fin 65 => semVal (kcell (c, k)) 0) : sProp 𝕄) := by
  have hb := close_at (F := F) m ρ (barCell c) 1 (duties_later m ρ _)
  have hs := close_at (F := F) m ρ (sendCell c c) 0 (duties_idle m ρ _ (duties_send_own m ρ c))
  have hr := close_at (F := F) m ρ (recvCell c c) 0 (duties_idle m ρ _ (duties_recv_own m ρ c))
  have hS := close_all (F := F) m ρ K (Finset.Ico 0 31) (fun r => sendCell c (peer c r)) 1 (fun r => record_send m ρ K c _) (fun r => duties_later m ρ _)
  have hR := close_all (F := F) m ρ K (Finset.Ico 0 31) (fun r => recvCell c (src c r)) 1 (fun r => record_recv m ρ K c _) (fun r => duties_later m ρ _)
  rw [cells_by_kind c fun g => semVal g 0, devices_by_peer c fun t => semVal (sendCell c t) 0, devices_by_src c fun s => semVal (recvCell c s) 0]
  unfold ended idle
  iintro ⟨#HK, Hb, Hss, Hrs, Hs, Hr⟩
  imod hb $$ [Hb] with Zb
  · isplitr; · iapply (record_bar m ρ K c); iexact HK
    iexact Hb
  imod hs $$ [Hs] with Zs
  · isplitr; · iapply (record_send m ρ K c c); iexact HK
    iexact Hs
  imod hr $$ [Hr] with Zr
  · isplitr; · iapply (record_recv m ρ K c c); iexact HK
    iexact Hr
  imod hS $$ [Hss] with Zss
  · isplitr; · iexact HK
    iexact Hss
  imod hR $$ [Hrs] with Zrs
  · isplitr; · iexact HK
    iexact Hrs
  imodintro
  isplitl [Zb]; · iexact Zb
  isplitl [Zs Zss]
  · isplitl [Zs] <;> iassumption
  isplitl [Zr] <;> iassumption

/-! ## Entering and leaving -/

/-- What a device holds when its body begins, besides the records. -/
def entry : sProp 𝕄 :=
  iprop(linear c ∗ claims c ∗ levAts L lv ∗ buffers c ∗ (∃ W, owes (c : Thread nD τ) (O₀ c) W) ∗ factors m ρ c
    ∗ ∃ f : Buf (Elt F) ((c : Thread nD τ).loc cc0_stg2_0), (c : Thread nD τ).loc cc0_stg2_0 ↦[Finset.univ]{fullShare} f)

/-- and when it ends. -/
def exit : sProp 𝕄 :=
  iprop(((locS c ↦[Finset.univ]{fullShare} sendC m ρ c) ∗ (locR c ↦[Finset.univ]{fullShare} gath m ρ c)
      ∗ bigSep Finset.univ fun k : Fin 65 => semVal (kcell (c, k)) 0)
    ∗ (∃ W, owes (c : Thread nD τ) 0 W) ∗ factors m ρ c ∗ ((c : Thread nD τ).loc cc0_stg2_0 ↦[Finset.univ]{fullShare} outOf m ρ c))

theorem fill_none (f : Buf (Elt F) (locS c)) : (locS c ↦[Finset.univ]{fullShare} f : sProp 𝕄) ⊢ fillSt m ρ c (upTo 0) := by
  unfold fillSt
  iintro H
  iexists f
  isplitr
  · ipureintro; exact fun i hi => absurd hi.1 (Nat.not_lt_zero _)
  · iexact H

theorem enter : entry m ρ c ⊢ (iprop((sigSt c 0 ∗ (atBarrier m ρ c ∗ later c (forXfer c))) ∗ idle c) : sProp 𝕄) := by
  unfold entry linear claims payToks buffers O₀ sigSt atBarrier later forXfer idle
  rw [cells_by_kind c fun g => atPos ER g 0 ∅ 0, devices_by_peer c fun t => atPos ER (sendCell c t) 0 ∅ 0,
    devices_by_src c fun s => atPos ER (recvCell c s) 0 ∅ 0]
  rw [bigSep_sep' (Finset.Ico 0 31) (fun r => dutyTok ER (barCell (peer c r)) 0 c) (fun r => freeSlot c (peer c r)),
    show bigSep (Finset.Ico 0 31) (toArrive (F := F) c) = iprop((bigSep (Finset.Ico 0 31) fun r => cred (tallyAt (recvCell c (src c r)) () N))
      ∗ bigSep (Finset.Ico 0 31) fun r => atPos ER (recvCell c (src c r)) 0 ∅ 0) from bigSep_sep' (Finset.Ico 0 31) _ _]
  iintro ⟨⟨⟨Hb, ⟨Hs, Hss⟩, Hr, Hrs⟩, Htb, Htx⟩, ⟨Hcb, Hcr⟩, Hlev, ⟨⟨%f, HS⟩, HR⟩, HO, Hxw, Hout⟩
  ihave HR' := (free_split c) $$ HR
  icases HR' with ⟨Hfo, Hfs⟩
  isplitr [Hs Hr]
  · isplitl [HO Htb Hfs]
    · isplitl [HO]; · iexact HO
      isplitl [Htb] <;> iassumption
    isplitl [Hlev Hcb Hb Hxw HS]
    · isplitl [Hlev]; · iexact Hlev
      isplitl [Hcb]; · iexact Hcb
      isplitl [Hb]; · iexact Hb
      isplitl [Hxw]; · iexact Hxw
      iapply (fill_none m ρ c f); iexact HS
    isplitl [Hfo Htx]
    · isplitl [Hfo] <;> iassumption
    isplitl [Hcr Hrs]
    · isplitl [Hcr] <;> iassumption
    isplitl [Hss] <;> iassumption
  · isplitl [Hs] <;> iassumption

theorem leave_body : iprop(records m ρ K ∗ ((leaveSt m ρ c 31 ∗ rest m ρ c) ∗ idle c)) ⊢ (iprop(|={Set.univ}=> exit m ρ c) : sProp 𝕄) := by
  unfold leaveSt rest written kept exit
  rw [show bigSep (Finset.Ico 0 31) (left m ρ c) = iprop((bigSep (Finset.Ico 0 31) fun r => sendPay m ρ c (peer c r))
      ∗ bigSep (Finset.Ico 0 31) fun r => atPos ER (sendCell c (peer c r)) 1 ∅ 0) from bigSep_sep' (Finset.Ico 0 31) _ _, send_split m ρ c]
  iintro ⟨HK, ⟨⟨HO, -, Hps, Hss⟩, ⟨Hrs, HR, Hout⟩, Hpo, Hb, Hxw⟩, Hidle⟩
  imod (close_device m ρ K c) $$ [HK Hb Hss Hrs Hidle] with HZ
  · isplitl [HK]; · iexact HK
    unfold ended
    isplitl [Hb]; · iexact Hb
    isplitl [Hss]; · iexact Hss
    isplitl [Hrs] <;> iassumption
  imodintro
  isplitl [Hps Hpo HR HZ]
  · isplitl [Hps Hpo]
    · isplitl [Hpo] <;> iassumption
    isplitl [HR] <;> iassumption
  isplitl [HO]; · iexact HO
  isplitl [Hxw] <;> iassumption

/-- The body takes a device from the one to the other. -/
theorem body_sound {P : sProp 𝕄} (h : exit m ρ c ⊢ P) : iprop(records m ρ K ∗ entry m ρ c) ⊢ WP c (cc0_body xM (Memref.isWhole_whole _) wM (Memref.isWhole_whole _) oM (Memref.isWhole_whole _)
          sendM (Memref.isWhole_whole _) recvM (Memref.isWhole_whole _) cc0_scratch2 cc0_scratch3 : CoreProg F _) (fun _ => P) := by
  have hrun := body_run m ρ K c (Q := fun _ => iprop(|={Set.univ}=> P))
  have hlv := leave_body m ρ K c
  unfold WP at hrun ⊢
  refine BIBase.Entails.trans ?_ (wp_fupd _ _ _ _ _)
  iintro ⟨#HK, HE⟩
  ihave HE' := (enter m ρ c) $$ HE
  icases HE' with ⟨Hin, Hidle⟩
  iapply hrun $$ [Hin]
  · isplitr; · iexact HK
    iexact Hin
  iintro Hend
  imod hlv $$ [Hend Hidle] with Hx
  · isplitr; · iexact HK
    isplitl [Hend] <;> iassumption
  imodintro
  iapply h; iexact Hx

end Close

/-! ## The pipeline's proof data -/

/-- What a device starts from: the records at some names, what is its alone, its claims, and the order of waiting. -/
def start (c : Dev nD) : sProp 𝕄 := iprop((∃ K, records m ρ K ∗ linear c) ∗ claims c ∗ levAts L lv)

def Φ₀ (c : Dev nD) : sProp 𝕄 := iprop(start m ρ c ∗ buffers c)
def Φ₁ (c : Dev nD) : sProp 𝕄 :=
  iprop((locS c ↦[Finset.univ]{fullShare} sendC m ρ c) ∗ (locR c ↦[Finset.univ]{fullShare} gath m ρ c)
    ∗ bigSep Finset.univ fun k : Fin 65 => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outOf m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- A staging buffer of device `c` with the contents `X`. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns; simp only [Memref.view_whole, View.read_whole, View.set_whole]

def bodyPre (c : Dev nD) : sProp 𝕄 :=
  iprop(Φ₀ m ρ c ∗ (dats m ρ 0 c).owesAt () t0_0.castSucc
    ∗ (∃ d, held c cc0_stg0_0 ((dats m ρ 0 c).before (0 : Fin 3) t0_0 d))
    ∗ (∃ d, held c cc0_stg1_0 ((dats m ρ 0 c).before (1 : Fin 3) t0_0 d))
    ∗ (∃ d, held c cc0_stg2_0 ((dats m ρ 0 c).before (2 : Fin 3) t0_0 d)))

def bodyPost (c : Dev nD) : sProp 𝕄 :=
  iprop(Φ₁ m ρ c ∗ (dats m ρ 0 c).owesAt () t0_0.succ ∗ held c cc0_stg0_0 (xstg m ρ c) ∗ held c cc0_stg1_0 (wstg m ρ c) ∗ held c cc0_stg2_0 (outOf m ρ c))

theorem before_x (c : Dev nD) (d) : (dats m ρ 0 c).before (0 : Fin 3) t0_0 d = xstg m ρ c := by
  unfold Dat.before; rw [if_pos (fetch0_0 t0_0)]; rfl
theorem before_w (c : Dev nD) (d) : (dats m ρ 0 c).before (1 : Fin 3) t0_0 d = wstg m ρ c := by
  unfold Dat.before; rw [if_pos (fetch0_1 t0_0)]; rfl

theorem pre_entry (c : Dev nD) : bodyPre m ρ c ⊢ (iprop(∃ K, records m ρ K ∗ entry m ρ c) : sProp 𝕄) := by
  unfold bodyPre Φ₀ start entry factors Dat.owesAt Pipeline.owesWithin
  rw [show (dats m ρ 0 c).owed t0_0.castSucc = O₀ c from rfl]
  iintro ⟨⟨⟨⟨%K, HK, Hlin⟩, Hcl, Hlev⟩, Hbuf⟩, ⟨%W, -, HO⟩, ⟨%d0, %f0, %e0, Hx⟩, ⟨%d1, %f1, %e1, Hw⟩, ⟨%d2, %f2, -, Hout⟩⟩
  rw [before_x] at e0
  rw [before_w] at e1
  subst e0 e1
  iexists K
  isplitl [HK]; · iexact HK
  isplitl [Hlin]; · iexact Hlin
  isplitl [Hcl]; · iexact Hcl
  isplitl [Hlev]; · iexact Hlev
  isplitl [Hbuf]; · iexact Hbuf
  isplitl [HO]; · iexists W; iexact HO
  isplitl [Hx Hw]
  · isplitl [Hx] <;> iassumption
  iexists f2; iexact Hout

theorem exit_post (c : Dev nD) : exit m ρ c ⊢ (bodyPost m ρ c : sProp 𝕄) := by
  unfold exit bodyPost Φ₁ factors Dat.owesAt Pipeline.owesWithin
  rw [show (dats m ρ 0 c).owed t0_0.succ = 0 from rfl]
  iintro ⟨HΦ, ⟨%W, HO⟩, ⟨Hx, Hw⟩, Hout⟩
  isplitl [HΦ]; · iexact HΦ
  isplitl [HO]
  · iexists W
    isplitr; · (ipureintro; exact fun _ _ => Or.inl trivial)
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

/-- The body's obligation on device `c`. -/
theorem body_obligation (c : Dev nD) : BodyObligation (dats (F := F) m ρ 0 c) (defs₀ (F := F)) 𝒱₀ () Set.univ := fun t => by
  have hs : ∀ K, iprop(records m ρ K ∗ entry m ρ c) ⊢ WP c (cc0_body xM (Memref.isWhole_whole _) wM (Memref.isWhole_whole _) oM (Memref.isWhole_whole _)
          sendM (Memref.isWhole_whole _) recvM (Memref.isWhole_whole _) cc0_scratch2 cc0_scratch3 : CoreProg F _) (fun _ => bodyPost m ρ c) :=
    fun K => body_sound m ρ K c (exit_post m ρ c)
  rw [fin_N0 t, bigSep_W0, bigSep_W0]
  simp only [owns_held]
  show bodyPre m ρ c ⊢ WP c (cc0_body xM (Memref.isWhole_whole _) wM (Memref.isWhole_whole _) oM (Memref.isWhole_whole _)
          sendM (Memref.isWhole_whole _) recvM (Memref.isWhole_whole _) cc0_scratch2 cc0_scratch3 : CoreProg F _) (fun _ => bodyPost m ρ c)
  iintro H
  ihave H' := (pre_entry m ρ c) $$ H
  icases H' with ⟨%K, HKE⟩
  iapply (hs K); iexact HKE

end Cert.KernelIdeal.Exchange

end
-- ==== Proof.Ideal.Launch.lean ====
/-
# The launch

From any memory with every counter at zero the thirty-two kernels run to the end: what every device then holds.
-/
module

public import proofs.«01_k».proof.Proof.Ideal.Obligation
public import Idealize.ShloMosaic.Lib.Pipeline.CollectiveSegs

@[expose] public section

set_option maxRecDepth 16384

noncomputable section

namespace Cert.KernelIdeal.Exchange

open Cert.KernelIdeal Cert.KernelIdeal.Gen
open Idealize.ShloMosaic Idealize.ShloMosaic.TcCoe Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The kernel's semaphores: one of each array per slot. -/
def osem : Dev nD ⊕ Dev nD → SemLoc sig
  | .inl t => .dma (sendQ t)
  | .inr s => .dma (recvQ s)

theorem sendQ_inj {t t' : Dev nD} (h : sendQ t = sendQ t') : t = t' := by
  have e := congrArg Fin.val h; rw [sendQ_val, sendQ_val] at e; exact Fin.ext (by omega)
theorem recvQ_inj {s s' : Dev nD} (h : recvQ s = recvQ s') : s = s' := by
  have e := congrArg Fin.val h; rw [recvQ_val, recvQ_val] at e; exact Fin.ext (by omega)
theorem sendQ_ne_recvQ (t s : Dev nD) : sendQ t ≠ recvQ s := fun h => by
  have e := congrArg Fin.val h; rw [sendQ_val, recvQ_val] at e; have : t.val < 32 := t.isLt; omega

theorem osem_injective : Function.Injective osem := by
  rintro (t | s) (t' | s') h
  · rw [sendQ_inj (SemLoc.dma.inj h)]
  · exact absurd (SemLoc.dma.inj h) (sendQ_ne_recvQ _ _)
  · exact absurd (SemLoc.dma.inj h).symm (sendQ_ne_recvQ _ _)
  · rw [recvQ_inj (SemLoc.dma.inj h)]

theorem stage_low : ∀ (w : Fin cfg0.W) (s : Fin (cfg0.spec w).nbuf), ((cfg0.spec w).sem s).val < 3 := by decide

theorem send_scoped : ∀ t : Dev nD, (SemLoc.dma (sendQ t) : SemLoc sig).isScoped .tc = true := by decide
theorem recv_scoped : ∀ s : Dev nD, (SemLoc.dma (recvQ s) : SemLoc sig).isScoped .tc = true := by decide

theorem ownSemFacts : Pipeline.OwnSemFacts cfg0.spec osem where
  isScoped k := by
    rcases k with t | s
    · exact send_scoped t
    · exact recv_scoped s
  inj := osem_injective
  disj k w s h := by
    have hw := stage_low w s
    rcases k with t | t
    · have e := congrArg Fin.val (SemLoc.dma.inj h); rw [sendQ_val] at e; omega
    · have e := congrArg Fin.val (SemLoc.dma.inj h); rw [recvQ_val] at e; omega

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun t : Dev nD => semVal (sendCell c t) 0) ∗ bigSep Finset.univ fun s : Dev nD => semVal (recvCell c s) 0) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem sems0_eq (c : Dev nD) :
    (bigSep Finset.univ fun k : Fin 65 => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, cells_by_kind c fun g => semVal g 0]

/-! ## What the launch deals -/

theorem kcell_injective : Function.Injective (kcell : Dev nD × Fin 65 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The duties device `c` pays in step `r`: at the addressed device's barrier, at its own send slot, at the addressed
    device's receive slot. -/
def tokOf (x : Dev nD × Fin 3 × Fin 31) : GSem nD τ sig × ℕ × Dev nD := match x.2.1 with
  | 0 => (barCell (peer x.1 x.2.2), 0, x.1)
  | 1 => (sendCell x.1 (peer x.1 x.2.2), 0, 0)
  | 2 => (recvCell (peer x.1 x.2.2) x.1, 0, 0)

theorem peer_inj' {c : Dev nD} {r r' : Fin 31} (h : peer c r = peer c r') : r = r' := Fin.ext (peer_inj c r.isLt r'.isLt h)

theorem tokOf_injective : Function.Injective tokOf := by
  have hdev : ∀ {g g' : GSem nD τ sig}, g = g' → g.1.1 = g'.1.1 := fun h => congrArg (fun g : GSem nD τ sig => g.1.1) h
  rintro ⟨c, j, r⟩ ⟨c', j', r'⟩ h
  have hg := congrArg Prod.fst h
  have hd := congrArg (fun x : GSem nD τ sig × ℕ × Dev nD => x.2.2) h
  have hs := congrArg Prod.snd hg
  fin_cases j <;> fin_cases j'
  · obtain rfl : c = c' := hd
    obtain rfl : r = r' := peer_inj' (hdev hg)
    rfl
  · exact absurd hs (fun e => by cases e)
  · exact absurd hs (fun e => by cases e)
  · exact absurd hs (fun e => by cases e)
  · obtain rfl : c = c' := hdev hg
    obtain rfl : r = r' := peer_inj' (sendQ_inj (SemLoc.dma.inj hs))
    rfl
  · exact absurd (SemLoc.dma.inj hs) (sendQ_ne_recvQ _ _)
  · exact absurd hs (fun e => by cases e)
  · exact absurd (SemLoc.dma.inj hs).symm (sendQ_ne_recvQ _ _)
  · obtain rfl : c = c' := recvQ_inj (SemLoc.dma.inj hs)
    obtain rfl : r = r' := peer_inj' (hdev hg)
    rfl
def allToks : Finset (GSem nD τ sig × ℕ × Dev nD) := Finset.univ.map ⟨tokOf, tokOf_injective⟩

def u₀ : UU := (initOf (Pipeline.cells cfgs cellOf_inj) (Pipeline.launchToks cfgs cellOf_inj), initOf allCells allToks)

/-- What device `c` is dealt: its semaphores' round states, its positions at them, and the tokens it pays with. -/
def G (c : Dev nD) : sProp 𝕄 :=
  iprop((bigSep Finset.univ fun k : Fin 65 => roundState ER (Rd m ρ) (kcell (c, k)) 0)
    ∗ (bigSep Finset.univ fun k : Fin 65 => reached ER (kcell (c, k)) 0) ∗ linear c)
/-- What it starts from when the records are common. -/
def G' (c : Dev nD) : sProp 𝕄 := iprop(∃ K, records m ρ K ∗ linear c)

omit [FloatOps F] in
theorem over_steps (Φ : ℕ → sProp 𝕄) : (bigSep Finset.univ fun r : Fin 31 => Φ r) = bigSep (Finset.Ico 0 31) Φ := by
  have h : Finset.Ico 0 31 = Finset.univ.map (Fin.valEmbedding (n := 31)) := by decide
  rw [h, bigSep_map]; rfl

omit [FloatOps F] in
theorem over_three (Φ : Fin 3 → sProp 𝕄) : bigSep Finset.univ Φ = iprop(Φ 0 ∗ Φ 1 ∗ Φ 2) := bigSep_univ_eq_bigSepL [0, 1, 2] (by decide) (by decide) Φ

omit [FloatOps F] in
theorem toks_of (c : Dev nD) : (bigSep Finset.univ fun x : Fin 3 × Fin 31 => (dutyTok ER (tokOf (c, x)).1 (tokOf (c, x)).2.1 (tokOf (c, x)).2.2 : sProp 𝕄)) = payToks c := by
  rw [bigSep_univ_prod, over_three]
  unfold payToks
  rw [bigSep_sep' (Finset.Ico 0 31) (fun r => dutyTok ER (sendCell c (peer c r)) 0 0) (fun r => dutyTok ER (recvCell (peer c r) c) 0 0),
    ← over_steps, ← over_steps, ← over_steps]
  rfl

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 65 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => payToks c := by
    unfold allToks; rw [bigSep_map, bigSep_univ_prod]
    exact bigSep_congr fun c _ => toks_of c
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G linear; simp only [bigSep_sep']
  isplitl [Hst']; · iexact Hst'
  isplitl [Hr']; · iexact Hr'
  isplitl [Hat'] <;> iassumption

/-- One device's invariants, allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 65 => iprop(∃ κ : ℕ, cellInv ER (Rd m ρ) κ (kcell (c, k))))
          ∗ (bigSep Finset.univ fun k : Fin 65 => reached ER (kcell (c, k)) 0) ∗ linear c) := by
  have halloc : iprop((bigSep Finset.univ fun k : Fin 65 => semVal (kcell (c, k)) 0) ∗ bigSep Finset.univ fun k : Fin 65 => roundState ER (Rd m ρ) (kcell (c, k)) 0)
      ⊢ (|={Set.univ}=> bigSep Finset.univ fun k : Fin 65 => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  unfold G
  rw [sems0_eq] at halloc
  iintro ⟨Hos, Hus, Hst, Hr, Hlin⟩
  imod halloc $$ [Hos Hus Hst] with Hinv
  · isplitl [Hos Hus]
    · isplitl [Hus] <;> iassumption
    iexact Hst
  imodintro
  isplitl [Hinv]; · iexact Hinv
  isplitl [Hr] <;> iassumption

theorem start_each (K : Dev nD × Fin 65 → ℕ) (c : Dev nD) : iprop(records m ρ K ∗ linear c) ⊢ (G' m ρ c : sProp 𝕄) := by
  unfold G'; iintro H; iexists K; iexact H

/-- What every device allocated is every other's to use. -/
theorem share :
    (bigSep Finset.univ fun c : Dev nD => iprop((bigSep Finset.univ fun k : Fin 65 => iprop(∃ κ : ℕ, cellInv ER (Rd m ρ) κ (kcell (c, k))))
          ∗ (bigSep Finset.univ fun k : Fin 65 => reached ER (kcell (c, k)) 0) ∗ linear c) : sProp 𝕄)
      ⊢ bigSep Finset.univ (G' m ρ) := by
  rw [bigSep_sep', bigSep_sep', ← bigSep_univ_prod (fun ck : Dev nD × Fin 65 => iprop(∃ κ : ℕ, cellInv ER (Rd m ρ) κ (kcell ck))),
    ← bigSep_univ_prod (fun ck : Dev nD × Fin 65 => (reached ER (kcell ck) 0 : sProp 𝕄))]
  iintro ⟨HI, HR, Hlin⟩
  ihave HK := (bigSep_exists_pi Finset.univ (fun (ck : Dev nD × Fin 65) (κ : ℕ) => (cellInv ER (Rd m ρ) κ (kcell ck) : sProp 𝕄))) $$ HI
  icases HK with ⟨%K, HI⟩
  iapply (each_with Finset.univ (R := records m ρ K) fun c => start_each m ρ K c)
  isplitl [HI HR]
  · unfold records; isplitl [HI] <;> iassumption
  · iexact Hlin

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (share m ρ))

/-! ## The launch's claims -/

theorem bar_ne_recv (a b s : Dev nD) : barCell a ≠ recvCell b s := fun h => by have := congrArg Prod.snd h; cases this

theorem owed_at (S : Finset ℕ) (g₀ : ℕ → GSem nD τ sig) (k : ℕ) (g : GSem nD τ sig) :
    (∑ r ∈ S, tallyAt (g₀ r) () k : CellTallies nD τ sig Unit) g () = ∑ r ∈ S, if g = g₀ r then k else 0 := by
  rw [Finset.sum_apply, Finsupp.finsetSum_apply]
  refine Finset.sum_congr rfl fun r _ => ?_
  rw [tallyAt_apply]
  by_cases h : g = g₀ r
  · rw [if_pos ⟨h, rfl⟩, if_pos h]
  · rw [if_neg fun e => h e.1, if_neg h]

/-- Thirty-one devices owe a device's barrier a unit each; -/
theorem owed_bar (c : Dev nD) : ∑ d : Dev nD, O₀ d (barCell c) () = 31 := by
  have h : ∀ d : Dev nD, O₀ d (barCell c) () = ∑ r ∈ Finset.Ico 0 31, if d = src c r then 1 else 0 := fun d => by
    unfold O₀ owedX owedB
    rw [Pi.add_apply, Finsupp.add_apply, owed_at, owed_at, Finset.sum_eq_zero fun r _ => if_neg (bar_ne_recv _ _ _), Nat.zero_add]
    refine Finset.sum_congr rfl fun r hr => ?_
    have hr' := (Finset.mem_Ico.mp hr).2
    by_cases e : d = src c r
    · rw [if_pos e, e, peer_src c r hr', if_pos rfl]
    · rw [if_neg e, if_neg fun h' => e ?_]
      have : c = peer d r := congrArg (fun g : GSem nD τ sig => g.1.1) h'
      rw [this, src_peer d r hr']
  rw [Finset.sum_congr rfl fun d _ => h d, Finset.sum_comm,
    Finset.sum_congr rfl fun r _ => (Finset.sum_ite_eq' Finset.univ (src c r) fun _ => 1).trans (if_pos (Finset.mem_univ _)), Finset.sum_const, Nat.card_Ico]
  rfl

/-- and one device owes each of its receive slots a transfer. -/
theorem owed_recv (c : Dev nD) (k : ℕ) (hk : k < 31) : ∑ d : Dev nD, O₀ d (recvCell c (src c k)) () = N := by
  have hne : ∀ (d : Dev nD) (r : ℕ), r < 31 → ¬ (d = src c k ∧ r = k) → recvCell c (src c k) ≠ recvCell (peer d r) d := fun d r hr hn e => by
    have h1 : c = peer d r := congrArg (fun g : GSem nD τ sig => g.1.1) e
    have h2 : src c k = d := recvQ_inj (SemLoc.dma.inj (congrArg Prod.snd e))
    refine hn ⟨h2.symm, src_inj c hr hk ?_⟩
    rw [h2, h1, src_peer d r hr]
  have h : ∀ d : Dev nD, O₀ d (recvCell c (src c k)) () = ∑ r ∈ Finset.Ico 0 31, if recvCell c (src c k) = recvCell (peer d r) d then N else 0 := fun d => by
    unfold O₀ owedX owedB
    rw [Pi.add_apply, Finsupp.add_apply, owed_at, owed_at, Finset.sum_eq_zero (s := Finset.Ico 0 31) (f := fun r => if recvCell c (src c k) = barCell (peer d r) then 1 else 0)
      fun r _ => if_neg (bar_ne_recv _ _ _).symm, Nat.add_zero]
  rw [Finset.sum_congr rfl fun d _ => h d, Finset.sum_eq_single (src c k), Finset.sum_eq_single k]
  · rw [peer_src c k hk, if_pos rfl]
  · exact fun r hr hn => if_neg (hne _ r (Finset.mem_Ico.mp hr).2 fun e => hn e.2)
  · exact fun hn => absurd (Finset.mem_Ico.mpr ⟨Nat.zero_le _, hk⟩) hn
  · exact fun d _ hn => Finset.sum_eq_zero fun r hr => if_neg (hne d r (Finset.mem_Ico.mp hr).2 fun e => hn e.1)
  · exact fun hn => absurd (Finset.mem_univ _) hn

omit [FloatOps F] in
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, owed_bar]
omit [FloatOps F] in
theorem launch_recv (c : Dev nD) (k : ℕ) (hk : k < 31) :
    tallyOn (recvCell c (src c k)) (launchCredit (Pipeline.owing O₀) 0 (recvCell c (src c k))) = (tallyAt (recvCell c (src c k)) () N : CellTallies nD τ sig Unit) := by
  unfold tallyAt; refine congrArg _ (Finsupp.ext fun u => ?_); cases u
  rw [Pipeline.launchCredit_owing, Finsupp.single_eq_same, owed_recv c k hk]

theorem arrive_injOn (c : Dev nD) : Set.InjOn (fun r => (SemLoc.dma (recvQ (src c r)) : SemLoc sig)) (Finset.Ico 0 31 : Finset ℕ) :=
  fun r hr r' hr' h => src_injOn c hr hr' (recvQ_inj (SemLoc.dma.inj h))
theorem bar_not_arrival (c : Dev nD) : SemLoc.reg barS ∉ (Finset.Ico 0 31).image (fun r => (SemLoc.dma (recvQ (src c r)) : SemLoc sig)) := fun hx => by
  obtain ⟨r, -, e⟩ := Finset.mem_image.mp hx
  cases e

omit [FloatOps F] in
/-- Out of a family over all semaphores the barrier's and the receive slots'. -/
theorem bar_and_arrivals (c : Dev nD) (Ψ : SemLoc sig → sProp 𝕄) :
    bigSep Finset.univ Ψ ⊢ iprop(Ψ (.reg barS) ∗ bigSep (Finset.Ico 0 31) fun r => Ψ (.dma (recvQ (src c r)))) := by
  refine (bigSep_subset (Finset.subset_univ (insert (SemLoc.reg barS) ((Finset.Ico 0 31).image (fun r => (SemLoc.dma (recvQ (src c r)) : SemLoc sig)))))).trans ?_
  rw [bigSep_insert (bar_not_arrival c), bigSep_image_of_injOn (arrive_injOn c)]
  exact Entails.refl _

omit [FloatOps F] in
theorem creds (c : Dev nD) : (Pipeline.launchCred O₀ c : sProp 𝕄) ⊢ claims c := by
  refine (bar_and_arrivals c fun sm => cred (tallyOn ((c.tc : Thread nD τ), sm) (launchCredit (Pipeline.owing O₀) 0 ((c.tc : Thread nD τ), sm)))).trans ?_
  unfold claims
  rw [launch_bar, bigSep_congr (s := Finset.Ico 0 31) fun r hr => congrArg (cred (Val := Elt F) (Name := ℕ) (U := UU) (Lvl := ℕ)) (launch_recv c r (Finset.mem_Ico.mp hr).2)]

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ (|={Set.univ}=> iprop(start m ρ c ∗ emp) : sProp 𝕄) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ buffers
  iintro ⟨Hs, -, Hb⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  rw [sems0_eq]
  iintro ⟨HS, HR, HZb, HZ⟩
  isplitl [HZb]; · iexact HZb
  isplitl [HZ]; · iexact HZ
  isplitl [HS]
  · iexists _; iexact HS
  · iexists _; iexact HR

omit [FloatOps F] in
theorem stage_sem_low : ∀ (w : Fin cfg0.W) (s : Fin (cfg0.win w).nbuf), ((cfg0.win w).sem s).val < 35 := by decide

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_sem_low w s) _ (by
      rcases t with ⟨_ | _, ht⟩
      · exact Or.inl rfl
      · exact Or.inr rfl)

theorem share_eq (c : Dev nD) (w : Fin cfg0.W) : (dats m ρ 0 c).share w = fullShare := by unfold Dat.share; split <;> rfl

/-- What array `w` of device `c` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with every counter at zero every fair run of the thirty-two kernels ends; each device's arrays then
    hold `finalA`, and every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

/-- The factors are what they were. -/
theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _

/-- The result array's one block is what the body left. -/
theorem finalA_block (c : Dev nD) : (win0_2.blk (0 : Fin 1)).view.read (Elt F) (finalA m ρ c (2 : Fin 3)) = outOf m ρ c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from flush0_2 _, if_pos rfl]
  exact View.read_write_univ _ _

/-- A window's block is its whole array: the factors are staged as they are, and the result array ends at `outOf`. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem wstg_eq (c : Dev nD) : wstg m ρ c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _
theorem finalA_out (c : Dev nD) : finalA m ρ c (2 : Fin 3) = outOf m ρ c := by
  have hz : (fun a => (win0_2.index (0 : Fin 1)) a * main_v1.ty.shape.size a) = fun _ => 0 := funext fun a => by fin_cases a <;> decide
  exact (Memref.read_access_unit_zero (Elt F) main_v1 hz (fun a => by fin_cases a <;> decide) _).symm.trans (finalA_block m ρ c)

/-- The run, read at the three arrays. -/
theorem run_arrays : θ_run defs (onTc (τ := τ) (main (F := F))) (s₀ m ρ) (fun r =>
    (∀ c : Dev nD, r.2.mem ((c : Thread nD τ).loc main_v1) = outOf m ρ c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (finalA_out m ρ c), (h.1 c (0 : Fin 3)).trans (finalA_x m ρ c),
    (h.1 c (1 : Fin 3)).trans (finalA_w m ρ c)⟩, h.2⟩) (run_main m ρ)

end Cert.KernelIdeal.Exchange

end
-- ==== Proof.Value.Product.lean ====
/-
# Products and largest magnitudes

At the ideal values: a product of two matrices entry by entry, on a device and on the host, and the largest entry of an
array by its upper bounds.
-/
module

public import proofs.«01_k».proof.Proof.Ideal.Launch
public import proofs.«01_k».proof.Proof.Gen.ReferenceIdeal.Run
public import Idealize.ShloMosaic.Lib.MatmulPlain
public import Idealize.ShloMosaic.Lib.StackMember
public import Idealize.ShloMosaic.Lib.Layout

@[expose] public section

set_option maxRecDepth 16384

noncomputable section

namespace Cert.KernelIdeal.Value

open Idealize.ShloMosaic hiding ix2 ix3
open Idealize.ShloMosaic.ValueIdx

/-- Row `r` of `X` times column `j` of `W`. -/
def entry {M K N : ℕ} (X : FVec Ideal ⟨2, ![M, K]⟩ .f32) (W : FVec Ideal ⟨2, ![K, N]⟩ .f32) (r : Fin M) (j : Fin N) : EReal :=
  ∑ k : Fin K, X (ix2 r k) * W (ix2 k j)

/-- The smallest value the fold of a maximum starts from. -/
def low : EReal := Ideal.ofBits .f32 0xFF800000#32

/-- One hundred and twenty-seven, and its opposite, as the programs spell them. -/
def top : EReal := Ideal.ofBits .f32 0x42FE0000#32
def bot : EReal := Ideal.ofBits .f32 0xC2FE0000#32

/-- An entry `y` quantised at the magnitude `g`: the step is `g / 127`. -/
def quant (g y : EReal) : EReal :=
  min top (max bot (FloatOps.roundeven (F := Ideal) (φ := .f32) (Ideal.div y (Ideal.div g top)))) * Ideal.div g top

/-- The magnitude of an entry. -/
def mag (y : EReal) : EReal := FloatOps.absf (F := Ideal) (φ := .f32) y

/-! ## A device's product -/

/-- A device's product is row times column. -/
theorem pay1_apply (X : Vec Ideal Cert.KernelIdeal.S128x4096 .f32) (W : Vec Ideal Cert.KernelIdeal.S4096x2048 .f32) (p : Fin 128) (j : Fin 2048) :
    Gen.k0_pay1 (F := Ideal) X W (ix2 p j) = entry X W p j := by
  unfold Gen.k0_pay1
  simp only [shapeCast_self]
  have e := Ideal.matmul_plain_apply (M := 128) (K := 4096) (N := 2048) (φ₁ := .f32) (φ₂ := .f32) none X W (constant (F := Ideal) ⟨2, ![128, 2048]⟩ .f32 0x00000000#32) p j
  refine Eq.trans e ?_
  rw [constant_apply, Ideal.ofBits_zero_f32, zero_add]
  rfl

/-- The host's product is row times column. -/
theorem dot_apply (X : FVec Ideal Cert.ReferenceIdeal.S4096x4096 .f32) (W : FVec Ideal Cert.ReferenceIdeal.S4096x2048 .f32) (r : Fin 4096) (j : Fin 2048) :
    Host.dotGeneral Cert.ReferenceIdeal.dot_S4096x4096_S4096x2048_S4096x2048_1_0_0_1_n_n none X W (ix2 r j) = entry X W r j :=
  Idealize.ShloMosaic.StackMember.dotGeneral_plain_apply (m := 4096) (k := 4096) (n := 2048) none X W r j

/-! ## Largest entries, by their upper bounds -/

/-- The fold of a maximum over a set is below `a` exactly when its start and all its members are. -/
theorem fold_le_iff {ι : Type} (S : Finset ι) (b : EReal) (f : ι → EReal) (a : EReal) :
    S.fold (FloatOps.maximumf (F := Ideal) (φ := .f32)) b f ≤ a ↔ b ≤ a ∧ ∀ i ∈ S, f i ≤ a := by
  have e : S.fold (FloatOps.maximumf (F := Ideal) (φ := .f32)) b f = S.fold max b f := rfl
  rw [e, Finset.fold_max_le]

/-- The same for the reduction of a stack of one matrix to one value. -/
theorem reduce_le_iff {s : Shape} (v : FVec Ideal s .f32) {axes : List (Fin s.rank)} (h : s.Reduces axes ⟨1, ![1]⟩)
    (hφ : FKind.Formats .f32) (hacc : (0xFF800000#32 : BitVec 32) = FKind.maximumf.neutral .f32 hφ)
    (j : (⟨1, ![1]⟩ : Shape).Idx) (a : EReal) :
    multiReduction .maximumf axes ⟨1, ![1]⟩ v 0xFF800000#32 h hφ hacc j ≤ a ↔ low ≤ a ∧ ∀ i, v i ≤ a := by
  rw [multiReduction_maximumf_eq_fold, fold_le_iff]
  refine and_congr Iff.rfl ⟨fun H i => H i ?_, fun H i _ => H i⟩
  refine Finset.mem_filter.mpr ⟨Finset.mem_univ _, ?_⟩
  funext d
  match d with
  | ⟨0, _⟩ => exact Subsingleton.elim (α := Fin 1) _ _

/-- The reference's largest magnitude, by its upper bounds. -/
theorem host_le_iff (v : FVec Ideal Cert.ReferenceIdeal.S4096x2048 .f32) (j : Cert.ReferenceIdeal.S_.Idx) (a : EReal) :
    Host.reduce FloatOps.maximumf v (constant (F := Ideal) Cert.ReferenceIdeal.S_ .f32 0xFF800000#32)
      Cert.ReferenceIdeal.Gen.reducesTo_S4096x2048_S_d0_1 Cert.ReferenceIdeal.Gen.h_S_ j ≤ a ↔ low ≤ a ∧ ∀ i, v i ≤ a := by
  rw [Host.reduce_eq_fold, fold_le_iff]
  refine and_congr Iff.rfl ⟨fun H i => H i ?_, fun H i _ => H i⟩
  refine Finset.mem_filter.mpr ⟨Finset.mem_univ _, ?_⟩
  funext d
  exact d.elim0

/-- A device's largest magnitude, by its upper bounds. -/
theorem pay2_le_iff (X : Vec Ideal Cert.KernelIdeal.S128x4096 .f32) (W : Vec Ideal Cert.KernelIdeal.S4096x2048 .f32) (a : EReal) :
    Gen.k0_pay2 (F := Ideal) X W ≤ a ↔ low ≤ a ∧ ∀ (p : Fin 128) (j : Fin 2048), mag (entry X W p j) ≤ a := by
  unfold Gen.k0_pay2
  refine (reduce_le_iff _ _ (.inl rfl) rfl _ a).trans (and_congr Iff.rfl ⟨fun H p j => ?_, fun H i => ?_⟩)
  · have h := H (ix3 (0 : Fin 1) p j)
    rw [shapeCast_apply _ _ _ (ix2 p j) (by rw [Shape.rowMajor_val_two, Shape.rowMajor_val_three]; simp [ix2, ix3])] at h
    rw [← pay1_apply]; exact h
  · have h0 : (i 0).val = 0 := by have : (i 0).val < 1 := (i 0).isLt; omega
    have e := shapeCast_apply (absf (Gen.k0_pay1 (F := Ideal) X W)) Cert.KernelIdeal.Gen.shapeCasts_S128x2048_S1x128x2048 i (ix2 (i 1 : Fin 128) (i 2 : Fin 2048))
      (by rw [Shape.rowMajor_val_two, Shape.rowMajor_val_three]; simp [ix2, h0])
    refine le_of_eq_of_le e ?_
    exact (congrArg mag (pay1_apply X W (i 1) (i 2))).trans_le (H (i 1) (i 2))

end Cert.KernelIdeal.Value

end
-- ==== Proof.Value.Result.lean ====
/-
# What a device writes

At the ideal values: from the gathered buffer a device reads the largest of all magnitudes and its columns of the whole
product, and writes those columns quantised.
-/
module

public import proofs.«01_k».proof.Proof.Value.Product

@[expose] public section

set_option maxRecDepth 16384

noncomputable section

namespace Cert.KernelIdeal.Value

open Idealize.ShloMosaic hiding ix2 ix3 eq_ix2 eq_ix3
open Idealize.ShloMosaic.TcCoe Idealize.ShloMosaic.ValueIdx
open Idealize.SL.Sem
open Cert.KernelIdeal Cert.KernelIdeal.Exchange

variable (m : (ℓ : Loc nD τ sig) → Buf (Elt Ideal) ℓ) (ρ : Dev nD → PrngReg)

/-! ## What stands in the gathered buffer -/

/-- Slot `s` of device `c`'s gathered buffer has, in its row 128, the magnitude device `s` sent; -/
theorem mags_apply (c : Dev nD) (j : S32x1x64.Idx) : magsOf (gath m ρ c) j = amaxOf m ρ (j 0) := by
  have h1 : (j 1).val = 0 := by have : (j 1).val < 1 := (j 1).isLt; omega
  show sendC m ρ _ _ = _
  unfold sendC
  rw [filled_high]
  · refine congrArg (amaxOf m ρ) (Fin.ext ?_)
    show 0 + 1 * (j 0).val = (j 0).val
    omega
  · show ¬ (128 + 1 * (j 1).val < 128)
    omega

/-- and in its first 128 rows device `c`'s columns of device `s`'s product. -/
theorem rows_apply (c : Dev nD) (s : Fin 32) (p : Fin 128) (q : Fin 64) (hq : 64 * c.val + q.val < 2048) :
    rowsOf (gath m ρ c) (ix3 s p q) = yOf m ρ s (ix2 p ⟨64 * c.val + q.val, hq⟩) := by
  have hs : (⟨0 + 1 * s.val, by have := s.isLt; omega⟩ : Fin 32) = s := Fin.ext (by show 0 + 1 * s.val = s.val; omega)
  show sendC m ρ (⟨0 + 1 * s.val, _⟩ : Fin 32) _ = _
  rw [hs]
  unfold sendC
  refine (filled_low _ _ _ ?_ ?_).trans ?_
  · show 0 + 1 * p.val < 128
    have := p.isLt; omega
  · show 64 * c.val + (0 + 1 * q.val) < 2048
    omega
  · refine congrArg (yOf m ρ s) (funext fun a => Fin.ext ?_)
    match a with
    | ⟨0, _⟩ => show 0 + 1 * p.val = p.val; omega
    | ⟨1, _⟩ => show 64 * c.val + (0 + 1 * q.val) = 64 * c.val + q.val; omega

/-! ## The largest magnitude of all -/

/-- The largest of the magnitudes a device reads. -/
def gmax (v : FVec Ideal S1x32x64 .f32) : EReal :=
  extractAt ![0, 0, 0] (shapeCast S1x1x1 (multiReduction .maximumf [1, 2] S1 v 0xFF800000#32 Gen.reduces_S1x32x64_S1 (.inl rfl) rfl) Gen.shapeCasts_S1_S1x1x1)
    Gen.inpos_S1x1x1_p0_0_0

/-- The magnitudes as a device stacks them to compare them. -/
theorem pay39_apply (v : Vec Ideal S32x1x64 .f32) (z : Fin 1) (s : Fin 32) (q : Fin 64) :
    Gen.k0_pay39 v (ix3 z s q) = v (ix3 s (0 : Fin 1) q) := by
  have hz : z.val = 0 := by omega
  unfold Gen.k0_pay39
  refine (shapeCast_apply _ _ _ (ix2 s q) (by rw [Shape.rowMajor_val_two, Shape.rowMajor_val_three]; simp [ix2, ix3, hz])).trans ?_
  exact shapeCast_apply _ _ _ (ix3 s (0 : Fin 1) q) (by rw [Shape.rowMajor_val_two, Shape.rowMajor_val_three]; simp [ix2, ix3])

/-- By its upper bounds: they bound every device's magnitude. -/
theorem gmax_le_iff (c : Dev nD) (a : EReal) :
    gmax (Gen.k0_pay39 (magsOf (gath m ρ c))) ≤ a ↔ low ≤ a ∧ ∀ s : Dev nD, amaxOf m ρ s ≤ a := by
  unfold gmax
  refine (reduce_le_iff _ _ (.inl rfl) rfl _ a).trans (and_congr Iff.rfl ?_)
  have e : ∀ i : S1x32x64.Idx, Gen.k0_pay39 (magsOf (gath m ρ c)) i = amaxOf m ρ (i 1) := by
    intro i
    refine (congrArg (Gen.k0_pay39 (magsOf (gath m ρ c))) (ValueIdx.eq_ix3 (n0 := 1) (n1 := 32) (n2 := 64) i)).trans ?_
    refine (pay39_apply _ (i 0 : Fin 1) (i 1 : Fin 32) (i 2 : Fin 64)).trans ?_
    exact mags_apply m ρ c _
  constructor
  · intro H s
    have h := H (ix3 (0 : Fin 1) s (0 : Fin 64))
    rw [e] at h; exact h
  · intro H i
    rw [e]; exact H _

/-! ## The result -/

/-- Row `128 s + p` of what device `c` writes is row `p` of device `s`'s product, quantised at the largest magnitude of all. -/
theorem out_apply (c : Dev nD) (s : Fin 32) (p : Fin 128) (q : Fin 64) (hr : 128 * s.val + p.val < 4096) (hq : 64 * c.val + q.val < 2048) :
    outOf m ρ c (ix2 (⟨128 * s.val + p.val, hr⟩ : Fin 4096) q)
      = quant (gmax (Gen.k0_pay39 (magsOf (gath m ρ c)))) (yOf m ρ s (ix2 p ⟨64 * c.val + q.val, hq⟩)) := by
  rw [← rows_apply m ρ c s p q hq]
  have e : shapeCast S4096x64 (rowsOf (gath m ρ c)) Gen.shapeCasts_S32x128x64_S4096x64 (ix2 (⟨128 * s.val + p.val, hr⟩ : Fin 4096) q)
      = rowsOf (gath m ρ c) (ix3 s p q) :=
    shapeCast_apply _ _ _ _ (by rw [Shape.rowMajor_val_two, Shape.rowMajor_val_three]; simp [ix2, ix3]; omega)
  rw [← e]
  rfl

end Cert.KernelIdeal.Value

end
-- ==== Proof.Value.Equation.lean ====
/-
# The devices' results are the blocks of the reference's

At the ideal values, when each device holds its block of rows of one array and a copy of another.
-/
module

public import proofs.«01_k».proof.Proof.Value.Result

@[expose] public section

set_option maxRecDepth 16384

noncomputable section

namespace Cert.KernelIdeal.Value

open Idealize.ShloMosaic hiding ix0 ix2 ix3 eq_ix2 eq_ix3
open Idealize.ShloMosaic.TcCoe Idealize.ShloMosaic.ValueIdx
open Idealize.SL.Sem
open Cert.KernelIdeal Cert.KernelIdeal.Exchange

/-! ## The reference -/

/-- The product the reference takes. -/
def refDot (X : FVec Ideal ReferenceIdeal.S4096x4096 .f32) (W : FVec Ideal ReferenceIdeal.S4096x2048 .f32) : FVec Ideal ReferenceIdeal.S4096x2048 .f32 :=
  Host.dotGeneral ReferenceIdeal.dot_S4096x4096_S4096x2048_S4096x2048_1_0_0_1_n_n none X W

/-- Its largest magnitude, -/
def refMax (X : FVec Ideal ReferenceIdeal.S4096x4096 .f32) (W : FVec Ideal ReferenceIdeal.S4096x2048 .f32) : FVec Ideal ReferenceIdeal.S_ .f32 :=
  Host.reduce FloatOps.maximumf (Host.absf (refDot X W)) (constant ReferenceIdeal.S_ .f32 0xFF800000#32)
    ReferenceIdeal.Gen.reducesTo_S4096x2048_S_d0_1 ReferenceIdeal.Gen.h_S_

/-- the step of the quantisation, at every entry, -/
def refStep (X : FVec Ideal ReferenceIdeal.S4096x4096 .f32) (W : FVec Ideal ReferenceIdeal.S4096x2048 .f32) : FVec Ideal ReferenceIdeal.S4096x2048 .f32 :=
  broadcastInDim ReferenceIdeal.S4096x2048 ![] ReferenceIdeal.Gen.bcast_S_S4096x2048
    (Host.divf (refMax X W) (constant ReferenceIdeal.S_ .f32 0x42FE0000#32))

/-- and its result. -/
def refOut (X : FVec Ideal ReferenceIdeal.S4096x4096 .f32) (W : FVec Ideal ReferenceIdeal.S4096x2048 .f32) : FVec Ideal ReferenceIdeal.S4096x2048 .f32 :=
  mulf (minimumf (broadcastInDim ReferenceIdeal.S4096x2048 ![] ReferenceIdeal.Gen.bcast_S_S4096x2048 (id (constant ReferenceIdeal.S_ .f32 0x42FE0000#32)))
    (maximumf (broadcastInDim ReferenceIdeal.S4096x2048 ![] ReferenceIdeal.Gen.bcast_S_S4096x2048 (id (constant ReferenceIdeal.S_ .f32 0xC2FE0000#32)))
      (Host.roundeven (Host.divf (refDot X W) (refStep X W))))) (refStep X W)

/-- The reference's result entry by entry. -/
theorem refOut_apply (X : FVec Ideal ReferenceIdeal.S4096x4096 .f32) (W : FVec Ideal ReferenceIdeal.S4096x2048 .f32) (r : Fin 4096) (j : Fin 2048) :
    refOut X W (ix2 r j) = quant (refMax X W ix0) (entry X W r j) := by
  have e : refStep X W (ix2 r j) = Ideal.div (refMax X W ix0) top :=
    broadcastInDim_apply _ _ _ _ ix0 fun a => a.elim0
  have e' : refOut X W (ix2 r j)
      = min top (max bot (FloatOps.roundeven (F := Ideal) (φ := .f32) (Ideal.div (refDot X W (ix2 r j)) (refStep X W (ix2 r j))))) * refStep X W (ix2 r j) := rfl
  rw [e', e]
  unfold refDot
  rw [dot_apply]
  rfl

/-- The reference's largest magnitude, by its upper bounds. -/
theorem refMax_le_iff (X : FVec Ideal ReferenceIdeal.S4096x4096 .f32) (W : FVec Ideal ReferenceIdeal.S4096x2048 .f32) (a : EReal) :
    refMax X W ix0 ≤ a ↔ low ≤ a ∧ ∀ (r : Fin 4096) (j : Fin 2048), mag (entry X W r j) ≤ a := by
  unfold refMax
  refine (host_le_iff _ _ a).trans (and_congr Iff.rfl ⟨fun H r j => ?_, fun H i => ?_⟩)
  · exact (congrArg mag (dot_apply X W r j)).symm.trans_le (H (ix2 r j))
  · have e : Host.absf (refDot X W) i = mag (entry X W (i 0 : Fin 4096) (i 1 : Fin 2048)) :=
      (congrArg (Host.absf (refDot X W)) (ValueIdx.eq_ix2 (n0 := 4096) (n1 := 2048) i)).trans (congrArg mag (dot_apply X W (i 0) (i 1)))
    exact e.trans_le (H _ _)

/-! ## Against the devices -/

section

variable (m : (ℓ : Loc nD τ sig) → Buf (Elt Ideal) ℓ) (ρ : Dev nD → PrngReg)
  (X : FVec Ideal ReferenceIdeal.S4096x4096 .f32) (W : FVec Ideal ReferenceIdeal.S4096x2048 .f32)

/-- Each device holds its block of rows of `X`, and all of `W`. -/
def Held : Prop :=
  ∀ c : Dev nD, m ((c : Thread nD τ).loc main_arg0) = Layout.block ⟨2, ![128, 4096]⟩ ⟨2, ![4096, 4096]⟩ 0 32 c X
    ∧ m ((c : Thread nD τ).loc main_arg1) = W

variable {m X W}

/-- Row `p` of a device's block times a column is row `128 c + p` of the whole times that column. -/
theorem entry_eq (h : Held m X W) (c : Fin 32) (p : Fin 128) (j : Fin 2048) (hr : 128 * c.val + p.val < 4096) :
    entry (xstg m ρ c) (wstg m ρ c) p j = entry X W (⟨128 * c.val + p.val, hr⟩ : Fin 4096) j := by
  unfold entry
  refine Finset.sum_congr rfl fun k _ => ?_
  have ex : xstg m ρ c (ix2 p k) = X (ix2 (⟨128 * c.val + p.val, hr⟩ : Fin 4096) k) := by
    rw [xstg_eq, (h c).1, Layout.block_apply]
    refine congrArg X (funext fun a => Fin.ext ?_)
    match a with
    | ⟨0, _⟩ => show c.val * 128 + p.val = 128 * c.val + p.val; omega
    | ⟨1, _⟩ => rfl
  have ew : wstg m ρ c = W := by rw [wstg_eq, (h c).2]
  rw [ex, ew]

/-- The largest magnitude each device finds is the reference's. -/
theorem gmax_eq (h : Held m X W) (c : Dev nD) : gmax (Gen.k0_pay39 (magsOf (gath m ρ c))) = refMax X W ix0 := by
  refine eq_of_forall_ge_iff fun a => ?_
  rw [gmax_le_iff, refMax_le_iff]
  refine and_congr_right fun hl => ⟨fun H r j => ?_, fun H s => ?_⟩
  · have hr : r.val < 4096 := r.isLt
    have hs : r.val / 128 < 32 := by omega
    have hp : r.val % 128 < 128 := by omega
    have h' := ((pay2_le_iff _ _ a).mp (H ⟨r.val / 128, hs⟩)).2 ⟨r.val % 128, hp⟩ j
    rw [entry_eq ρ h ⟨r.val / 128, hs⟩ ⟨r.val % 128, hp⟩ j (by show 128 * (r.val / 128) + r.val % 128 < 4096; omega)] at h'
    have er : (⟨128 * (r.val / 128) + r.val % 128, by omega⟩ : Fin 4096) = r := Fin.ext (by show 128 * (r.val / 128) + r.val % 128 = r.val; omega)
    rw [← er]; exact h'
  · refine (pay2_le_iff _ _ a).mpr ⟨hl, fun p j => ?_⟩
    have hs : s.val < 32 := s.isLt
    have hp : p.val < 128 := p.isLt
    rw [entry_eq ρ h s p j (by omega)]
    exact H _ _

/-- Each device writes its block of columns of the reference's result. -/
theorem out_eq (h : Held m X W) (c : Dev nD) :
    outOf m ρ c = Layout.block ⟨2, ![4096, 64]⟩ ⟨2, ![4096, 2048]⟩ 1 32 c (refOut X W) := by
  have at_ : ∀ (r : Fin 4096) (q : Fin 64), outOf m ρ c (ix2 r q)
      = (Layout.block ⟨2, ![4096, 64]⟩ ⟨2, ![4096, 2048]⟩ 1 32 c (refOut X W)) (ix2 r q) := by
    intro r q
    have hc : c.val < 32 := c.isLt
    have hq : q.val < 64 := q.isLt
    have hr : r.val < 4096 := r.isLt
    have hs : r.val / 128 < 32 := by omega
    have hp : r.val % 128 < 128 := by omega
    have hj : 64 * c.val + q.val < 2048 := by omega
    have hr' : 128 * (r.val / 128) + r.val % 128 < 4096 := by omega
    have er : (⟨128 * (r.val / 128) + r.val % 128, hr'⟩ : Fin 4096) = r := Fin.ext (by show 128 * (r.val / 128) + r.val % 128 = r.val; omega)
    have o := out_apply m ρ c ⟨r.val / 128, hs⟩ ⟨r.val % 128, hp⟩ q hr' hj
    rw [gmax_eq ρ h c] at o
    have y : yOf m ρ (⟨r.val / 128, hs⟩ : Fin 32) (ix2 (⟨r.val % 128, hp⟩ : Fin 128) ⟨64 * c.val + q.val, hj⟩) = entry X W r ⟨64 * c.val + q.val, hj⟩ :=
      (pay1_apply _ _ _ _).trans ((entry_eq ρ h ⟨r.val / 128, hs⟩ ⟨r.val % 128, hp⟩ _ hr').trans (by rw [er]))
    rw [y] at o
    have o' : outOf m ρ c (ix2 r q) = quant (refMax X W ix0) (entry X W r ⟨64 * c.val + q.val, hj⟩) :=
      (congrArg (fun r' : Fin 4096 => outOf m ρ c (ix2 r' q)) er).symm.trans o
    refine o'.trans ((refOut_apply X W r ⟨64 * c.val + q.val, hj⟩).symm.trans ?_)
    rw [Layout.block_apply]
    refine congrArg (refOut X W) (funext fun a => Fin.ext ?_)
    match a with
    | ⟨0, _⟩ => rfl
    | ⟨1, _⟩ => show 64 * c.val + q.val = c.val * 64 + q.val; omega
  funext i
  refine (congrArg (outOf m ρ c) (ValueIdx.eq_ix2 (n0 := 4096) (n1 := 64) i)).trans ((at_ (i 0) (i 1)).trans ?_)
  exact (congrArg (Layout.block ⟨2, ![4096, 64]⟩ ⟨2, ![4096, 2048]⟩ 1 32 c (refOut X W)) (ValueIdx.eq_ix2 (n0 := 4096) (n1 := 64) i)).symm

end

end Cert.KernelIdeal.Value

end
-- ==== Proof.lean ====
/-
# The claims

The three programs run and leave their arguments as they were, every counter back at zero; the kernel as printed at the
ideal values is the kernel's own text; and there each device's result is its block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Launch
public import proofs.«01_k».proof.Proof.Ideal.Launch
public import proofs.«01_k».proof.Proof.Value.Equation
public import Idealize.ShloMosaic.Lib.QuiescentFlight
public import Idealize.ShloMosaic.Adequacy
public import Idealize.ShloMosaic.Init

@[expose] public section

noncomputable section

namespace Cert.Proof

open Idealize.ShloMosaic Idealize.ShloMosaic.TcCoe Idealize.SL.Sem

/-- The kernel as compiled runs, its arguments unchanged and every counter back at zero; -/
theorem frame_p : Cert.quiescent_Kernel (hKernel := Cert.Kernel.Gen.facts) := fun m ρ _ =>
  (θ_run _ _ _).mono (fun _ h => ⟨fun c => (h.1 c).2, h.2⟩) (Cert.Kernel.Exchange.run_arrays m ρ)

/-- so does the kernel at the ideal values, -/
theorem frame_pi : Cert.quiescent_KernelIdeal (hKernelIdeal := Cert.KernelIdeal.Gen.facts) := fun m ρ _ =>
  (θ_run _ _ _).mono (fun _ h => ⟨fun c => (h.1 c).2, h.2⟩) (Cert.KernelIdeal.Exchange.run_arrays m ρ)

/-- and so does the reference, which has no counters. -/
theorem frame_ri : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- At the ideal values each device ends with its block of columns of what the reference computes of the whole arrays. -/
theorem equal : Cert.algebraic_KernelIdeal_ReferenceIdeal (hKernelIdeal := Cert.KernelIdeal.Gen.facts) (hReferenceIdeal := Cert.ReferenceIdeal.Gen.facts) := by
  intro m ρ m' ρ' _ hm
  refine ⟨Cert.KernelIdeal.Value.refOut _ _, (θ_run _ _ _).mono (fun _ h c => ⟨?_, (h.1 c).2⟩) (Cert.KernelIdeal.Exchange.run_arrays m ρ),
    (θ_run _ _ _).mono (fun _ h => h 0) (Cert.ReferenceIdeal.Value.run m' ρ')⟩
  exact (h.1 c).1.trans (Cert.KernelIdeal.Value.out_eq ρ hm c)

theorem claim : Cert.Claim :=
  ⟨Cert.Kernel.Gen.facts, Cert.KernelIdeal.Gen.facts, Cert.ReferenceIdeal.Gen.facts, frame_p, frame_pi, frame_ri, trivial, equal⟩

end Cert.Proof

end
